-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  main_v8
-- ==== Kernel.lean ====
abbrev S1024x16 : Shape := ⟨2, ![1024, 16]⟩
abbrev S100000x16 : Shape := ⟨2, ![100000, 16]⟩
abbrev S16x100000 : Shape := ⟨2, ![16, 100000]⟩
abbrev S1024x1 : Shape := ⟨2, ![1024, 1]⟩
abbrev S1024 : Shape := ⟨1, ![1024]⟩
abbrev S16x5888 : Shape := ⟨2, ![16, 5888]⟩
abbrev S1024x5888 : Shape := ⟨2, ![1024, 5888]⟩
abbrev S5888 : Shape := ⟨1, ![5888]⟩
abbrev S1x5888 : Shape := ⟨2, ![1, 5888]⟩

abbrev nBuf : Space → Nat
  | .hbm => 6
  | .vmem => 5
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S16x100000, .f32⟩
  | .hbm, ⟨3, _⟩ => ⟨S1024x1, .f32⟩
  | .hbm, ⟨4, _⟩ => ⟨S1024x1, .i32⟩
  | .hbm, ⟨5, _⟩ => ⟨S1024, .f32⟩
  | .local _ .vmem, ⟨0, _⟩ => ⟨S1024x16, .f32⟩
  | .local _ .vmem, ⟨1, _⟩ => ⟨S16x5888, .f32⟩
  | .local _ .vmem, ⟨2, _⟩ => ⟨S16x5888, .f32⟩
  | .local _ .vmem, ⟨3, _⟩ => ⟨S1024x1, .f32⟩
  | .local _ .vmem, ⟨4, _⟩ => ⟨S1024x1, .i32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0_1 : Ref sig .tc := ⟨.hbm, 4, rfl⟩
abbrev main_v0_0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_6 : BitVec 32 := 0#32
  let v20 : BitVec 1 := Scalar.cmpi .ne v19 c0_i32_6
  v20

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let c16_i32 : BitVec 32 := 16#32
  let v22 : BitVec 1 := Scalar.cmpi .slt arg0 c16_i32
  let v23 : BitVec 1 := Scalar.andi v21 v22
  let v24 : BitVec 32 := Scalar.extui v23
  let c0_i32_8 : BitVec 32 := 0#32
  let v25 : BitVec 1 := Scalar.cmpi .ne v24 c0_i32_8
  v25

def k0_cond3 (i : grid0.Coords) : BitVec 1 :=
  let arg0 : BitVec 32 := BitVec.ofNat 32 (i 0).val
  let c16_i32_9 : BitVec 32 := 16#32
  let v26 : BitVec 1 := Scalar.cmpi .eq arg0 c16_i32_9
  let v27 : BitVec 32 := Scalar.extui v26
  let c0_i32_10 : BitVec 32 := 0#32
  let v28 : BitVec 1 := Scalar.cmpi .ne v27 c0_i32_10
  v28

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x5888 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x16 : Shape := ⟨2, ![1024, 16]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S100000 : Shape := ⟨1, ![100000]⟩
abbrev S16x100000 : Shape := ⟨2, ![16, 100000]⟩
abbrev S1024x100000 : Shape := ⟨2, ![1024, 100000]⟩
abbrev S1x100000 : Shape := ⟨2, ![1, 100000]⟩

abbrev nBuf : Space → Nat
  | .hbm => 32
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x16, .f32⟩
  | .hbm, ⟨7, _⟩ => ⟨S_, .f32⟩
  | .hbm, ⟨8, _⟩ => ⟨S100000, .f32⟩
  | .hbm, ⟨9, _⟩ => ⟨S16x100000, .f32⟩
  | .hbm, ⟨10, _⟩ => ⟨S1024x100000, .f32⟩
  | .hbm, ⟨11, _⟩ => ⟨S_, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S1x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S1024x1, .f32⟩
  | .hbm, ⟨24, _⟩ => ⟨S1024x1, .i32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.BodyIdeal.lean ====
/-
  What one grid point of the kernel does to its staging buffers: the two inputs are read and left as they were, the two
  outputs are overwritten by the point's next score and next index. Stated over any float instance.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first grid point, as the kernel's first branch tests it. -/
abbrev atFirst (i : grid0.Coords) : Prop := k0_cond1 i = 1#1
/-- A middle grid point, as the kernel's second branch tests it. -/
abbrev atMid (i : grid0.Coords) : Prop := k0_cond2 i = 1#1
/-- The last grid point, as the kernel's third branch tests it. -/
abbrev atLast (i : grid0.Coords) : Prop := k0_cond3 i = 1#1

/-- The three branches' tests at every grid point: the first holds at point 0, the third at point 16, the second between. -/
theorem conds : ∀ n : Fin 17, ∀ i : grid0.Coords, (i 0).val = n.val →
    (atFirst i ↔ n.val = 0) ∧ (atMid i ↔ 0 < n.val ∧ n.val < 16) ∧ (atLast i ↔ n.val = 16) := by
  intro n i h
  unfold atFirst atMid atLast k0_cond1 k0_cond2 k0_cond3
  rw [h]
  clear h
  revert n
  decide +kernel

/-- The score buffer after a point: the block's minimum at the first point, the running minimum after it, and at the last
    point the root of the running minimum. -/
def nextScore (i : grid0.Coords) (x : Vec F S1024x16 .f32) (k : Vec F S16x5888 .f32) (o : Vec F S1024x1 .f32) : Vec F S1024x1 .f32 :=
  if atFirst i then k0_pay3 x k else if atMid i then k0_pay8 x k o else k0_pay14 i x k o

/-- The index buffer after a point, from the score and index buffers before it. -/
def nextIdx (i : grid0.Coords) (x : Vec F S1024x16 .f32) (k : Vec F S16x5888 .f32) (o : Vec F S1024x1 .f32) (n : Vec F S1024x1 .i32) :
    Vec F S1024x1 .i32 :=
  if atFirst i then k0_pay4 i x k else if atMid i then k0_pay9 i x k o n else k0_pay15 i x k o n

theorem hz : (![0, 0] : Fin 2 → Nat) = fun _ => 0 := funext fun a => by fin_cases a <;> rfl

/-- A store through the whole of a buffer leaves its payload. -/
theorem read_store {S : Shape} {e : EltTy} (a : Memref sig .tc .vmem S e) (f : a.view.ty.Contents (Elt F)) {off : Fin S.rank → Nat}
    (h : off = fun _ => 0) (inb : ∀ d, off d + S.size d ≤ S.size d) (p : Vec F S e) :
    a.view.read (Elt F) (a.view.writes (Elt F) f [⟨Rect.unit off S.size inb, p⟩]) = p := by
  rw [View.read_writes_eq_canon _ _ _ fun y => ⟨_, List.mem_singleton_self _, View.mem_set_unit_zero h inb y⟩]
  exact View.canon_unit_zero h _ p

/-- The body at the first point: the outputs are overwritten, whatever they held. -/
theorem sound_first (c : Dev nD) (E : Set ℕ) (i : grid0.Coords)
    (a1 : Memref sig .tc .vmem S1024x16 .f32) (w1 : a1.IsWhole) (a2 : Memref sig .tc .vmem S16x5888 .f32) (w2 : a2.IsWhole)
    (a3 : Memref sig .tc .vmem S1024x1 .f32) (w3 : a3.IsWhole) (a4 : Memref sig .tc .vmem S1024x1 .i32) (w4 : a4.IsWhole)
    (x : Vec F S1024x16 .f32) (k : Vec F S16x5888 .f32) (o : Vec F S1024x1 .f32) (n : Vec F S1024x1 .i32) (K : PUnit → sProp 𝕄)
    (h1 : atFirst i) (h2 : ¬ atMid i) (h3 : ¬ atLast i) :
    iprop(owns (c : Thread nD τ) a1 fullShare x ∗ owns (c : Thread nD τ) a2 fullShare k
        ∗ owns (c : Thread nD τ) a3 fullShare o ∗ owns (c : Thread nD τ) a4 fullShare n
        ∗ (iprop(owns (c : Thread nD τ) a1 fullShare x ∗ owns (c : Thread nD τ) a2 fullShare k
            ∗ owns (c : Thread nD τ) a3 fullShare (k0_pay3 x k) ∗ owns (c : Thread nD τ) a4 fullShare (k0_pay4 i x k)) -∗ K ⟨⟩))
      ⊢ wp frame (wpE (defs₀ (F := F)) Variants.none c none) E (cc0__nn_kernel i a1 w1 a2 w2 a3 w3 a4 w4) K := by
  simp only [cc0__nn_kernel_eq_skeleton]; unfold cc0__nn_kernel_skel
  simp only [show k0_cond1 i = 1#1 from h1, show ¬ k0_cond2 i = 1#1 from h2, show ¬ k0_cond3 i = 1#1 from h3, ↓reduceDIte]
  unfold owns
  iintro ⟨⟨%f0, %hf0, H0⟩, ⟨%f1, %hf1, H1⟩, ⟨%f2, %hf2, H2⟩, ⟨%f3, %hf3, H3⟩, Hk⟩
  obtain rfl := w1.eq_unread hf0; obtain rfl := w2.eq_unread hf1; obtain rfl := w3.eq_unread hf2; obtain rfl := w4.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    exact (read_store (S := S1024x1) a3 _ hz _ _).trans (by
      simp only [View.readAt_eq_ld, hf0, hf1, hf2, View.ld_unit_zero (S := S1024x16) hz, View.ld_unit_zero (S := S16x5888) hz,
        View.ld_unit_zero (S := S1024x1) hz])
  iexists _; isplitr; swap; · iexact H3
  ipureintro
  exact (read_store (S := S1024x1) a4 _ hz _ _).trans (by
    simp only [View.readAt_eq_ld, hf0, hf1, hf2, hf3, View.ld_unit_zero (S := S1024x16) hz, View.ld_unit_zero (S := S16x5888) hz,
      View.ld_unit_zero (S := S1024x1) hz])

/-- The body at a middle point. -/
theorem sound_mid (c : Dev nD) (E : Set ℕ) (i : grid0.Coords)
    (a1 : Memref sig .tc .vmem S1024x16 .f32) (w1 : a1.IsWhole) (a2 : Memref sig .tc .vmem S16x5888 .f32) (w2 : a2.IsWhole)
    (a3 : Memref sig .tc .vmem S1024x1 .f32) (w3 : a3.IsWhole) (a4 : Memref sig .tc .vmem S1024x1 .i32) (w4 : a4.IsWhole)
    (x : Vec F S1024x16 .f32) (k : Vec F S16x5888 .f32) (o : Vec F S1024x1 .f32) (n : Vec F S1024x1 .i32) (K : PUnit → sProp 𝕄)
    (h1 : ¬ atFirst i) (h2 : atMid i) (h3 : ¬ atLast i) :
    iprop(owns (c : Thread nD τ) a1 fullShare x ∗ owns (c : Thread nD τ) a2 fullShare k
        ∗ owns (c : Thread nD τ) a3 fullShare o ∗ owns (c : Thread nD τ) a4 fullShare n
        ∗ (iprop(owns (c : Thread nD τ) a1 fullShare x ∗ owns (c : Thread nD τ) a2 fullShare k
            ∗ owns (c : Thread nD τ) a3 fullShare (k0_pay8 x k o) ∗ owns (c : Thread nD τ) a4 fullShare (k0_pay9 i x k o n)) -∗ K ⟨⟩))
      ⊢ wp frame (wpE (defs₀ (F := F)) Variants.none c none) E (cc0__nn_kernel i a1 w1 a2 w2 a3 w3 a4 w4) K := by
  simp only [cc0__nn_kernel_eq_skeleton]; unfold cc0__nn_kernel_skel
  simp only [show ¬ k0_cond1 i = 1#1 from h1, show k0_cond2 i = 1#1 from h2, show ¬ k0_cond3 i = 1#1 from h3, ↓reduceDIte]
  unfold owns
  iintro ⟨⟨%f0, %hf0, H0⟩, ⟨%f1, %hf1, H1⟩, ⟨%f2, %hf2, H2⟩, ⟨%f3, %hf3, H3⟩, Hk⟩
  obtain rfl := w1.eq_unread hf0; obtain rfl := w2.eq_unread hf1; obtain rfl := w3.eq_unread hf2; obtain rfl := w4.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    exact (read_store (S := S1024x1) a3 _ hz _ _).trans (by
      simp only [View.readAt_eq_ld, hf0, hf1, hf2, View.ld_unit_zero (S := S1024x16) hz, View.ld_unit_zero (S := S16x5888) hz,
        View.ld_unit_zero (S := S1024x1) hz])
  iexists _; isplitr; swap; · iexact H3
  ipureintro
  exact (read_store (S := S1024x1) a4 _ hz _ _).trans (by
    simp only [View.readAt_eq_ld, hf0, hf1, hf2, hf3, View.ld_unit_zero (S := S1024x16) hz, View.ld_unit_zero (S := S16x5888) hz,
      View.ld_unit_zero (S := S1024x1) hz])

/-- The body at the last point. -/
theorem sound_last (c : Dev nD) (E : Set ℕ) (i : grid0.Coords)
    (a1 : Memref sig .tc .vmem S1024x16 .f32) (w1 : a1.IsWhole) (a2 : Memref sig .tc .vmem S16x5888 .f32) (w2 : a2.IsWhole)
    (a3 : Memref sig .tc .vmem S1024x1 .f32) (w3 : a3.IsWhole) (a4 : Memref sig .tc .vmem S1024x1 .i32) (w4 : a4.IsWhole)
    (x : Vec F S1024x16 .f32) (k : Vec F S16x5888 .f32) (o : Vec F S1024x1 .f32) (n : Vec F S1024x1 .i32) (K : PUnit → sProp 𝕄)
    (h1 : ¬ atFirst i) (h2 : ¬ atMid i) (h3 : atLast i) :
    iprop(owns (c : Thread nD τ) a1 fullShare x ∗ owns (c : Thread nD τ) a2 fullShare k
        ∗ owns (c : Thread nD τ) a3 fullShare o ∗ owns (c : Thread nD τ) a4 fullShare n
        ∗ (iprop(owns (c : Thread nD τ) a1 fullShare x ∗ owns (c : Thread nD τ) a2 fullShare k
            ∗ owns (c : Thread nD τ) a3 fullShare (k0_pay14 i x k o) ∗ owns (c : Thread nD τ) a4 fullShare (k0_pay15 i x k o n)) -∗ K ⟨⟩))
      ⊢ wp frame (wpE (defs₀ (F := F)) Variants.none c none) E (cc0__nn_kernel i a1 w1 a2 w2 a3 w3 a4 w4) K := by
  simp only [cc0__nn_kernel_eq_skeleton]; unfold cc0__nn_kernel_skel
  simp only [show ¬ k0_cond1 i = 1#1 from h1, show ¬ k0_cond2 i = 1#1 from h2, show k0_cond3 i = 1#1 from h3, ↓reduceDIte]
  unfold owns
  iintro ⟨⟨%f0, %hf0, H0⟩, ⟨%f1, %hf1, H1⟩, ⟨%f2, %hf2, H2⟩, ⟨%f3, %hf3, H3⟩, Hk⟩
  obtain rfl := w1.eq_unread hf0; obtain rfl := w2.eq_unread hf1; obtain rfl := w3.eq_unread hf2; obtain rfl := w4.eq_unread hf3
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    exact (read_store (S := S1024x1) a3 _ hz _ _).trans (by
      simp only [View.readAt_eq_ld, hf0, hf1, hf2, View.ld_unit_zero (S := S1024x16) hz, View.ld_unit_zero (S := S16x5888) hz,
        View.ld_unit_zero (S := S1024x1) hz])
  iexists _; isplitr; swap; · iexact H3
  ipureintro
  exact (read_store (S := S1024x1) a4 _ hz _ _).trans (by
    simp only [View.readAt_eq_ld, hf0, hf1, hf2, hf3, View.ld_unit_zero (S := S1024x16) hz, View.ld_unit_zero (S := S16x5888) hz,
      View.ld_unit_zero (S := S1024x1) hz])

/-- The body at any point: the inputs as they were, the outputs at the next score and the next index. -/
theorem sound_point (c : Dev nD) (E : Set ℕ) (i : grid0.Coords)
    (a1 : Memref sig .tc .vmem S1024x16 .f32) (w1 : a1.IsWhole) (a2 : Memref sig .tc .vmem S16x5888 .f32) (w2 : a2.IsWhole)
    (a3 : Memref sig .tc .vmem S1024x1 .f32) (w3 : a3.IsWhole) (a4 : Memref sig .tc .vmem S1024x1 .i32) (w4 : a4.IsWhole)
    (x : Vec F S1024x16 .f32) (k : Vec F S16x5888 .f32) (o : Vec F S1024x1 .f32) (n : Vec F S1024x1 .i32) (K : PUnit → sProp 𝕄) :
    iprop(owns (c : Thread nD τ) a1 fullShare x ∗ owns (c : Thread nD τ) a2 fullShare k
        ∗ owns (c : Thread nD τ) a3 fullShare o ∗ owns (c : Thread nD τ) a4 fullShare n
        ∗ (iprop(owns (c : Thread nD τ) a1 fullShare x ∗ owns (c : Thread nD τ) a2 fullShare k
            ∗ owns (c : Thread nD τ) a3 fullShare (nextScore i x k o) ∗ owns (c : Thread nD τ) a4 fullShare (nextIdx i x k o n)) -∗ K ⟨⟩))
      ⊢ wp frame (wpE (defs₀ (F := F)) Variants.none c none) E (cc0__nn_kernel i a1 w1 a2 w2 a3 w3 a4 w4) K := by
  obtain ⟨c1, c2, c3⟩ := conds (i 0) i rfl
  have hi : (i 0).val < 17 := (i 0).isLt
  unfold nextScore nextIdx
  by_cases h1 : atFirst i
  · have h0 := c1.mp h1
    rw [if_pos h1, if_pos h1]
    exact sound_first c E i a1 w1 a2 w2 a3 w3 a4 w4 x k o n K h1 (fun h => by have := c2.mp h; omega) (fun h => by have := c3.mp h; omega)
  rw [if_neg h1, if_neg h1]
  have h0 : (i 0).val ≠ 0 := fun h => h1 (c1.mpr h)
  by_cases h2 : atMid i
  · rw [if_pos h2, if_pos h2]
    exact sound_mid c E i a1 w1 a2 w2 a3 w3 a4 w4 x k o n K h1 h2 (fun h => by have := c2.mp h2; have := c3.mp h; omega)
  rw [if_neg h2, if_neg h2]
  refine sound_last c E i a1 w1 a2 w2 a3 w3 a4 w4 x k o n K h1 h2 (c3.mpr ?_)
  have : ¬ (0 < (i 0).val ∧ (i 0).val < 16) := fun h => h2 (c2.mpr h)
  omega

end Cert.KernelIdeal.Body

end
-- ==== Proof.FrameIdeal.lean ====
/-
  The kernel's frame: it runs from any memory, ends with its arguments unchanged and every semaphore counter at zero. The two
  outputs are forgotten (nothing here says what they hold); the clipped window of the keys is described on the part its
  transfers move. Stated over any float instance.
-/
module

public import proofs.«01_k».proof.Proof.BodyIdeal
public import proofs.«01_k».proof.Proof.Gen.KernelIdeal.Frame
public import Idealize.ShloMosaic.Lib.Quiescent
public import Idealize.ShloMosaic.Lib.Tactic

@[expose] public section

noncomputable section

namespace Cert.KernelIdeal.FrameRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs (windows 2 and 3) are forgotten. -/
def forgets : Fin 4 → Bool := fun w => decide (2 ≤ w.val)

/-- What the keys' staging buffer holds after point `t`: the fetched part of its block over an arbitrary rest. -/
def keysBlk (c : Dev nD) (t : Fin cfg0.N) : (cfg0.win 1).block.Idx → Elt F (cfg0.win 1).elt :=
  (cfg0.win 1).fill (cfg0.grid.coords t) (fun _ => Classical.choice inferInstance) (iblk m c 1 t)

/-- The pipeline's proof data on core `c`: the arrays as the region finds them, the inputs' buffers left at their blocks, the
    outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => keysBlk m c t
    | ⟨2, h⟩ => Pipeline.Dat.unnamed (cfg := cfg0) ⟨2, h⟩ t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = keysBlk m c t := by dsimp only [dats]
/-- The queries' buffer holds the queries' block before every point. -/
theorem before_0 (c : Dev nD) (t : Fin cfg0.N) (d) : (dats m 0 c).before 0 t d = iblk m c 0 t :=
  before0_0_of m (dats m 0 c) (A_eq m c 0) (after_0 m c) t d
/-- The keys' buffer, fetched at every point, holds the block's fetched part over what it held. -/
theorem before_1 (c : Dev nD) (t : Fin cfg0.N) (d) :
    (dats m 0 c).before 1 t d = (cfg0.win 1).fill (cfg0.grid.coords t) d (iblk m c 1 t) := by
  rw [Dat.before_fetched _ 1 t (fetch0_1 t) d]
  rfl

/-- What the body gets at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare d)
    ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, after_0, after_1]
  unfold keysBlk
  rw [Pipeline.Window.cut_fill]
  iintro ⟨HΦ, Ho, ⟨%d0, H0⟩, ⟨%d1, H1⟩, ⟨%d2, H2⟩, ⟨%d3, H3⟩⟩
  iapply (Cert.KernelIdeal.Body.sound_point c Set.univ (grid0.coords t) _ _ _ _ _ _ _ _ (iblk m c 0 t)
    ((cfg0.win 1).fill (cfg0.grid.coords t) d1 (iblk m c 1 t)) d2 d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexists d1; iexact H1
  isplitl [H2]; · iexists _; iexact H2
  iexists _; iexact H3

/-- The body table's row at point `t`'s slots is the body there. -/
theorem defs₀_row (t : Fin cfg0.N) : (defs₀ (F := F)) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets := fun t => by
  rw [bigSep_W0, bigSep_W0, defs₀_row]
  exact triple_restated (sound_body m c t) rfl .rfl fun _ => .rfl

/-- The one buffer the host writes after the region. -/
abbrev tailWrites : Finset (Ref sig .tc) := {main_v0_0}

/-- The host line after the region writes `tailWrites` only. -/
theorem sfx_writes : ∀ ops ∈ ([hostOps1] : List (List (HloOp τ sig (Elt F)))), ∀ op ∈ ops, ∀ b : Ref sig .tc,
    Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (by
    by_contra hne
    exact StableHlo.devRef_ne_of_ne hne hb)

/-- The run: every input window's array as the region found it, every other buffer but `tailWrites` too, and every counter at
    zero. -/
theorem run_main : θ_run defs (onTc (τ := τ) (main (F := F))) (s₀ m ρ)
    (fun r => Pipeline.RDat.FramePostR cfg0 (fun c => (dats m 0 c).toRForget forgets) tailWrites (V m) r ∧ r.2.sem = fun _ => 0) :=
  Pipeline.θ_run_frame_around_T_forget (Q' := _) cfgs (dats m) (0 : Fin 1) launch0 defs₀ Variants.none forgets tailWrites m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(Pipeline.RDat.FramePostR.arr_in h.1 c 0 rfl).trans ((A_eq m c 0).trans (V_main_arg0 m c)),
      ((h.1 c).2 main_arg1 (Finset.mem_sdiff.mpr ⟨Pipeline.mem_restRefs_of main_arg1 (by decide) (by decide), by decide⟩)).trans (V_main_arg1 m c)⟩, h.2⟩)
    (run_main m ρ)

end Cert.KernelIdeal.FrameRun

end
-- ==== Proof.FirstMin.lean ====
/-
  The mathematics, with no program in it: the first index at which a real function on an initial segment of the naturals is
  least, how that index is found block by block, and the two expanded forms of a squared distance on extended reals.
-/
module

public import Mathlib.Data.EReal.Operations
public import Mathlib.Data.Finset.Fold
public import Mathlib.Algebra.BigOperators.Fin
public import Mathlib.Algebra.Order.BigOperators.Group.Finset
public import Mathlib.Tactic.Ring
public import Mathlib.Tactic.Linarith

@[expose] public section

namespace Cert.NN

/-- `n` is the first of `0, …, N - 1` at which `f` is least. -/
def IsFirstMin (f : ℕ → ℝ) (N n : ℕ) : Prop :=
  n < N ∧ (∀ m < N, f n ≤ f m) ∧ ∀ m < n, f n < f m

/-- There is one first minimum at most. -/
theorem IsFirstMin.unique {f : ℕ → ℝ} {N n n' : ℕ} (h : IsFirstMin f N n) (h' : IsFirstMin f N n') : n = n' := by
  rcases lt_trichotomy n n' with hlt | heq | hgt
  · exact absurd (h.2.1 n' h'.1) (not_le.mpr (h'.2.2 n hlt))
  · exact heq
  · exact absurd (h'.2.1 n h.1) (not_le.mpr (h.2.2 n' hgt))

/-- A non-empty segment has a first minimum. -/
theorem exists_isFirstMin (f : ℕ → ℝ) {N : ℕ} (hN : 0 < N) : ∃ n, IsFirstMin f N n := by
  classical
  have hex : ∃ n, n < N ∧ ∀ m < N, f n ≤ f m := by
    obtain ⟨n, hn, hmin⟩ := Finset.exists_min_image (Finset.range N) f ⟨0, Finset.mem_range.mpr hN⟩
    exact ⟨n, Finset.mem_range.mp hn, fun m hm => hmin m (Finset.mem_range.mpr hm)⟩
  refine ⟨Nat.find hex, (Nat.find_spec hex).1, (Nat.find_spec hex).2, fun m hm => ?_⟩
  by_contra hle
  rw [not_lt] at hle
  have hmN : m < N := hm.trans (Nat.find_spec hex).1
  exact Nat.find_min hex hm ⟨hmN, fun k hk => hle.trans ((Nat.find_spec hex).2 k hk)⟩

/-- One more block of `V` values after the first `N`: the block's first minimum replaces the one so far exactly when its value is
    strictly less. -/
theorem IsFirstMin.step {f : ℕ → ℝ} {N V n k : ℕ} (h : IsFirstMin f N n) (hk : IsFirstMin (fun i => f (N + i)) V k) :
    IsFirstMin f (N + V) (if f (N + k) < f n then N + k else n) := by
  split
  · next hlt =>
    refine ⟨Nat.add_lt_add_left hk.1 N, fun m hm => ?_, fun m hm => ?_⟩
    · rcases lt_or_ge m N with hmN | hmN
      · exact hlt.le.trans (h.2.1 m hmN)
      · simpa [Nat.add_sub_cancel' hmN] using hk.2.1 (m - N) (by omega)
    · rcases lt_or_ge m N with hmN | hmN
      · exact hlt.trans_le (h.2.1 m hmN)
      · simpa [Nat.add_sub_cancel' hmN] using hk.2.2 (m - N) (by omega)
  · next hnlt =>
    rw [not_lt] at hnlt
    refine ⟨h.1.trans_le (Nat.le_add_right N V), fun m hm => ?_, h.2.2⟩
    rcases lt_or_ge m N with hmN | hmN
    · exact h.2.1 m hmN
    · refine hnlt.trans ?_
      simpa [Nat.add_sub_cancel' hmN] using hk.2.1 (m - N) (by omega)

/-- The least of a block's lanes, those from `V` on at `+∞`, is the value at the first minimum of the first `V`. -/
theorem fold_min_eq {B V k : ℕ} {g : ℕ → ℝ} (hVB : V ≤ B) (hk : IsFirstMin g V k) (v : Fin B → EReal)
    (hv : ∀ j : Fin B, j.val < V → v j = (g j.val : EReal)) (hv' : ∀ j : Fin B, V ≤ j.val → v j = ⊤) :
    Finset.univ.fold min ⊤ v = (g k : EReal) := by
  apply le_antisymm
  · refine Finset.fold_min_le _ |>.mpr (.inr ⟨⟨k, hk.1.trans_le hVB⟩, Finset.mem_univ _, ?_⟩)
    rw [hv _ hk.1]
  · refine Finset.le_fold_min _ |>.mpr ⟨le_top, fun j _ => ?_⟩
    rcases lt_or_ge j.val V with hj | hj
    · rw [hv j hj]; exact EReal.coe_le_coe_iff.mpr (hk.2.1 _ hj)
    · rw [hv' j hj]; exact le_top

/-- Among the lanes that hold the least value, the least lane number is the first minimum; the lanes that don't hold it count as
    `M`, past every lane. -/
theorem fold_min_index_eq {B V k : ℕ} {g : ℕ → ℝ} (hVB : V ≤ B) (hk : IsFirstMin g V k) (v : Fin B → EReal)
    (hv : ∀ j : Fin B, j.val < V → v j = (g j.val : EReal)) (hv' : ∀ j : Fin B, V ≤ j.val → v j = ⊤)
    (u : Fin B → EReal) (M : EReal) (hM : ((k : ℝ) : EReal) ≤ M)
    (hu : ∀ j : Fin B, v j = (g k : EReal) → u j = ((j.val : ℝ) : EReal))
    (hu' : ∀ j : Fin B, v j ≠ (g k : EReal) → u j = M) :
    Finset.univ.fold min ⊤ u = ((k : ℝ) : EReal) := by
  apply le_antisymm
  · refine Finset.fold_min_le _ |>.mpr (.inr ⟨⟨k, hk.1.trans_le hVB⟩, Finset.mem_univ _, ?_⟩)
    rw [hu _ (hv _ hk.1)]
  · refine Finset.le_fold_min _ |>.mpr ⟨le_top, fun j _ => ?_⟩
    by_cases hj : v j = (g k : EReal)
    · rw [hu j hj, EReal.coe_le_coe_iff, Nat.cast_le]
      by_contra hlt
      rw [not_le] at hlt
      have hjV : j.val < V := hlt.trans hk.1
      rw [hv j hjV, EReal.coe_eq_coe_iff] at hj
      exact absurd hj (ne_of_gt (hk.2.2 _ hlt))
    · rw [hu' j hj]; exact hM

/-- The squared distance of two real vectors. -/
def dist2 {K : ℕ} (x y : Fin K → ℝ) : ℝ := ∑ k, (x k - y k) ^ 2

theorem dist2_nonneg {K : ℕ} (x y : Fin K → ℝ) : 0 ≤ dist2 x y :=
  Finset.sum_nonneg fun _ _ => sq_nonneg _

/-- A finite sum of reals, taken in the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The squared distance, multiplied out. -/
theorem dist2_expand {K : ℕ} (x y : Fin K → ℝ) : dist2 x y = (∑ k, x k * x k) - 2 * (∑ k, x k * y k) + ∑ k, y k * y k := by
  rw [dist2, Finset.mul_sum, ← Finset.sum_sub_distrib, ← Finset.sum_add_distrib]
  exact Finset.sum_congr rfl fun k _ => by ring

/-- The kernel's form on reals: the query's square, plus the product of minus twice the query with the key, plus the key's
    square. -/
theorem kernel_form {K : ℕ} (x y : Fin K → ℝ) :
    ((∑ k, (x k : EReal) * (x k : EReal)) + ∑ k, (((-2 : ℝ) : EReal) * (x k : EReal)) * (y k : EReal))
      + ∑ k, (y k : EReal) * (y k : EReal) = (dist2 x y : EReal) := by
  simp only [← EReal.coe_mul, sum_coe, ← EReal.coe_add]
  rw [dist2_expand, Finset.mul_sum]
  congr 2
  rw [sub_eq_add_neg, ← Finset.sum_neg_distrib]
  congr 1
  exact Finset.sum_congr rfl fun k _ => by ring

/-- The reference's form on reals, whose bound below by zero changes nothing. -/
theorem reference_form {K : ℕ} (x y : Fin K → ℝ) :
    max (((∑ k, (x k : EReal) * (x k : EReal)) - ((2 : ℝ) : EReal) * ∑ k, (x k : EReal) * (y k : EReal))
      + ∑ k, (y k : EReal) * (y k : EReal)) 0 = (dist2 x y : EReal) := by
  simp only [← EReal.coe_mul, sum_coe, ← EReal.coe_add, ← EReal.coe_sub]
  rw [← dist2_expand, max_eq_left]
  exact EReal.coe_nonneg.mpr (dist2_nonneg x y)

end Cert.NN
-- ==== Proof.BlockIdeal.lean ====
/-
  What one grid point computes, on extended reals: the entries of the kernel's two stored vectors, from the entries of the block
  of squared distances and of what the outputs held before.
-/
module

public import proofs.«01_k».proof.Proof.BodyIdeal
public import proofs.«01_k».proof.Proof.FirstMin
public import Idealize.ShloMosaic.Lib.Pointwise.Tactic
public import Idealize.ShloMosaic.Lib.Pointwise.Reduce
public import Idealize.ShloMosaic.Lib.Pointwise.Select
public import Idealize.ShloMosaic.Lib.Pointwise.Sums
public import Idealize.ShloMosaic.Lib.Pointwise.Reshape
public import Idealize.ShloMosaic.Lib.Pointwise.Contract
public import Idealize.ShloMosaic.Lib.MatmulPlain
public import Idealize.ShloMosaic.Lib.ValueLayoutCasts

@[expose] public section

noncomputable section

namespace Cert.KernelIdeal.Block

open Cert.KernelIdeal Cert.KernelIdeal.Gen Cert.KernelIdeal.Body Cert.NN
open Idealize.ShloMosaic

/-! ## The constants -/

/-- The word `0xC0000000` is `-2`. -/
theorem ofBits_neg_two : Ideal.ofBits .f32 0xC0000000#32 = ((-2 : ℝ) : EReal) := by
  simp [Ideal.ofBits, Ideal.ieee, -EReal.coe_mul]; norm_num

/-- The word `0x40000000` is `2`. -/
theorem ofBits_two : Ideal.ofBits .f32 0x40000000#32 = ((2 : ℝ) : EReal) := by
  simp [Ideal.ofBits, Ideal.ieee, -EReal.coe_mul]; norm_num

/-- The word `0x45B80000` is `5888`. -/
theorem ofBits_lanes : Ideal.ofBits .f32 0x45B80000#32 = ((5888 : ℝ) : EReal) := by
  simp [Ideal.ofBits, Ideal.ieee, -EReal.coe_mul]; norm_num

/-- The word `0x7F800000` is `+∞`. -/
theorem ofBits_inf : Ideal.ofBits .f32 0x7F800000#32 = ⊤ := by
  simp [Ideal.ofBits, Ideal.ieee]

/-- A small natural number rounds to itself as a 32-bit word. -/
theorem fptosi_nat {k : ℕ} (hk : k < 2 ^ 31) : Ideal.fptosi 32 ((k : ℝ) : EReal) = BitVec.ofNat 32 k := by
  rw [Ideal.fptosi, Ideal.toIntClamped_coe, if_pos (Nat.cast_nonneg k), Int.floor_natCast, ← BitVec.ofInt_natCast]
  congr 1
  omega

/-- A lane number, converted to a float, is that number. -/
theorem sitofp_lane (j : Fin 5888) : FloatOps.sitofp (F := Ideal) .f32 (BitVec.ofNat 32 j.val) = ((j.val : ℝ) : EReal) := by
  have h : (BitVec.ofNat 32 j.val).toInt = (j.val : ℤ) := by
    have := j.isLt
    rw [BitVec.toInt_eq_toNat_cond, BitVec.toNat_ofNat]
    omega
  show ((((BitVec.ofNat 32 j.val).toInt : ℤ) : ℝ) : EReal) = _
  rw [h]; norm_cast

/-! ## A row's least entry and its lane -/

/-- The row minimum of a matrix is the fold of `min` along the row. -/
theorem rowMin_apply {n0 n1 : ℕ} {t : Shape} (src : FVec Ideal ⟨2, ![n0, n1]⟩ .f32)
    (h : (⟨2, ![n0, n1]⟩ : Shape).Reduces [1] t) (hφ : FKind.Formats .f32) (hacc : 0x7F800000#32 = FKind.minimumf.neutral .f32 hφ)
    (j : t.Idx) (r : Fin n0) (hj : (j ⟨0, h.lt_r2_a1_0⟩).val = r.val) :
    multiReduction .minimumf [1] t src 0x7F800000#32 h hφ hacc j = Finset.univ.fold min ⊤ fun k : Fin n1 => src (ix2 r k) := by
  have e : (⟨(j ⟨0, h.lt_r2_a1_0⟩).val, Shape.coordLt (j ⟨0, h.lt_r2_a1_0⟩) h.size_r2_a1_0⟩ : Fin n0) = r := Fin.ext hj
  rw [multiReduction_minimumf_eq_fold, h.fold_fiber_r2_a1, e, Ideal.ofBits_def, ofBits_inf]
  rfl

/-- A block's row minima, as a column. -/
def rowMin (d : FVec Ideal S1024x5888 .f32) : FVec Ideal S1024x1 .f32 :=
  shapeCast S1024x1 (multiReduction .minimumf [1] S1024 d 0x7F800000#32 reduces_S1024x5888_S1024 (.inl rfl) rfl)
    shapeCasts_S1024_S1024x1

/-- Per entry of a block: its lane where the entry is the row's least, `5888` elsewhere. -/
def laneOr (d : FVec Ideal S1024x5888 .f32) : FVec Ideal S1024x5888 .f32 :=
  select (cmpf .oeq d (broadcastTo S1024x5888 (rowMin d) broadcasts_S1024x1_S1024x5888))
    (broadcastTo S1024x5888 (shapeCast S1x5888 (k0_pay2 (F := Ideal)) shapeCasts_S1x5888_S1x5888) broadcasts_S1x5888_S1024x5888)
    (broadcast S1024x5888 (Scalar.ofBits (F := Ideal) .f32 0x45B80000#32))

/-- The first lane that holds the row's least entry, plus the block's first key index. -/
def rowArg (i : grid0.Coords) (d : FVec Ideal S1024x5888 .f32) : IVec S1024x1 32 :=
  addi (fptosi 32 (rowMin (laneOr d))) (broadcast S1024x1 (Scalar.muli (BitVec.ofNat 32 (i 0).val) 5888#32))

theorem pay3_eq (x : Vec Ideal S1024x16 .f32) (k : Vec Ideal S16x5888 .f32) : k0_pay3 (F := Ideal) x k = rowMin (k0_pay1 x k) := rfl
theorem pay4_eq (i : grid0.Coords) (x : Vec Ideal S1024x16 .f32) (k : Vec Ideal S16x5888 .f32) :
    k0_pay4 (F := Ideal) i x k = rowArg i (k0_pay1 x k) := rfl
theorem pay5_eq (x : Vec Ideal S1024x16 .f32) (k : Vec Ideal S16x5888 .f32) : k0_pay5 (F := Ideal) x k = rowMin (k0_pay1 x k) := rfl
theorem pay9_eq (i : grid0.Coords) (x : Vec Ideal S1024x16 .f32) (k : Vec Ideal S16x5888 .f32) (o : Vec Ideal S1024x1 .f32) (n : Vec Ideal S1024x1 .i32) :
    k0_pay9 (F := Ideal) i x k o n
      = select (k0_pay7 x k o) (rowArg i (k0_pay1 x k)) (shapeCast S1024x1 n shapeCasts_S1024x1_S1024x1) := rfl
theorem pay11_eq (i : grid0.Coords) (x : Vec Ideal S1024x16 .f32) (k : Vec Ideal S16x5888 .f32) : k0_pay11 (F := Ideal) i x k = rowMin (k0_pay10 i x k) := rfl
theorem pay15_eq (i : grid0.Coords) (x : Vec Ideal S1024x16 .f32) (k : Vec Ideal S16x5888 .f32) (o : Vec Ideal S1024x1 .f32) (n : Vec Ideal S1024x1 .i32) :
    k0_pay15 (F := Ideal) i x k o n
      = select (k0_pay13 i x k o) (rowArg i (k0_pay10 i x k)) (shapeCast S1024x1 n shapeCasts_S1024x1_S1024x1) := rfl

theorem rowMin_at (d : FVec Ideal S1024x5888 .f32) (r : Fin 1024) :
    rowMin d (ix2 r 0) = Finset.univ.fold min ⊤ fun j : Fin 5888 => d (ix2 r j) := by
  unfold rowMin
  exact (ValueIdx.shapeCast_a_a1_apply _ _ r 0).trans (rowMin_apply d _ _ _ _ r rfl)

theorem laneOr_at (d : FVec Ideal S1024x5888 .f32) (r : Fin 1024) (j : Fin 5888) :
    laneOr d (ix2 r j) = if d (ix2 r j) = rowMin d (ix2 r 0) then ((j.val : ℝ) : EReal) else ((5888 : ℝ) : EReal) := by
  rw [← ofBits_lanes, ← sitofp_lane]
  unfold laneOr k0_pay2
  pointwise!

/-- Row `r` of a block whose first `V` entries are the reals `g 0, g 1, …` and whose other entries are `+∞`: its minimum is the value
    at `g`'s first minimum among the first `V`. -/
theorem rowMin_of {d : FVec Ideal S1024x5888 .f32} {r : Fin 1024} {g : ℕ → ℝ} {V k : ℕ} (hV : V ≤ 5888) (hk : IsFirstMin g V k)
    (hd : ∀ j : Fin 5888, j.val < V → d (ix2 r j) = (g j.val : EReal)) (hd' : ∀ j : Fin 5888, V ≤ j.val → d (ix2 r j) = ⊤) :
    rowMin d (ix2 r 0) = (g k : EReal) := by
  rw [rowMin_at]; exact fold_min_eq hV hk _ hd hd'

/-- … and the index stored for it is the block's first key index plus that first minimum. -/
theorem rowArg_of {i : grid0.Coords} {n : ℕ} (hi : (i 0).val = n) {d : FVec Ideal S1024x5888 .f32} {r : Fin 1024} {g : ℕ → ℝ} {V k : ℕ}
    (hV : V ≤ 5888) (hk : IsFirstMin g V k)
    (hd : ∀ j : Fin 5888, j.val < V → d (ix2 r j) = (g j.val : EReal)) (hd' : ∀ j : Fin 5888, V ≤ j.val → d (ix2 r j) = ⊤) :
    rowArg i d (ix2 r 0) = BitVec.ofNat 32 (5888 * n + k) := by
  have h : rowMin (laneOr d) (ix2 r 0) = ((k : ℝ) : EReal) := by
    rw [rowMin_at]
    refine fold_min_index_eq hV hk (fun j => d (ix2 r j)) hd hd' _ ((5888 : ℝ) : EReal) ?_ (fun j hj => ?_) fun j hj => ?_
    · have := hk.1
      rw [EReal.coe_le_coe_iff]; exact_mod_cast (by omega : k ≤ 5888)
    · rw [laneOr_at, rowMin_of hV hk hd hd', if_pos hj]
    · rw [laneOr_at, rowMin_of hV hk hd hd', if_neg hj]
  have hk' : k < 2 ^ 31 := by have := hk.1; omega
  show IntOp.addi (Ideal.fptosi 32 (rowMin (laneOr d) (ix2 r 0))) (Scalar.muli (BitVec.ofNat 32 (i 0).val) 5888#32) = _
  rw [h, fptosi_nat hk', hi]
  show BitVec.ofNat 32 k + BitVec.ofNat 32 n * BitVec.ofNat 32 5888 = _
  rw [← BitVec.ofNat_mul, ← BitVec.ofNat_add, Nat.add_comm, Nat.mul_comm]

/-! ## The block of squared distances -/

/-- Entry `(r, j)` of the block, on reals. -/
theorem pay1_real (x : Vec Ideal S1024x16 .f32) (k : Vec Ideal S16x5888 .f32) (r : Fin 1024) (j : Fin 5888) (X Y : Fin 16 → ℝ)
    (hx : ∀ c, x (ix2 r c) = (X c : EReal)) (hk : ∀ c, k (ix2 c j) = (Y c : EReal)) :
    k0_pay1 (F := Ideal) x k (ix2 r j) = (dist2 X Y : EReal) := by
  rw [← kernel_form, ← ofBits_neg_two]
  simp only [← hx, ← hk]
  unfold k0_pay1
  pointwise!

/-- The last point's block: its first `5792` lanes are the block's, the others `+∞`. -/
theorem pay10_at (i : grid0.Coords) (hi : (i 0).val = 16) (x : Vec Ideal S1024x16 .f32) (k : Vec Ideal S16x5888 .f32) (r : Fin 1024) (j : Fin 5888) :
    k0_pay10 (F := Ideal) i x k (ix2 r j) = if j.val < 5792 then k0_pay1 (F := Ideal) x k (ix2 r j) else ⊤ := by
  rw [← ofBits_inf]
  unfold k0_pay10 k0_pay2
  pointwise!
  have hlim : (Scalar.subi (100000#32) (Scalar.muli (BitVec.ofNat 32 (i 0).val) 5888#32)).toInt = 5792 := by
    rw [hi]; decide +kernel
  rw [hlim, sitofp_lane]
  have hlt : (((j.val : ℝ) : EReal) < (((5792 : ℤ) : ℝ) : EReal)) ↔ j.val < 5792 := by
    rw [EReal.coe_lt_coe_iff, Int.cast_ofNat, Nat.cast_lt_ofNat]
  simp only [hlt]

/-! ## One point, read at one row -/

/-- A score and an index that hold the first minimum of `g`'s first `N` values. -/
def Running (g : ℕ → ℝ) (N : ℕ) (s : EReal) (b : BitVec 32) : Prop :=
  ∃ a, IsFirstMin g N a ∧ s = (g a : EReal) ∧ b = BitVec.ofNat 32 a

/-- The same with the score's root taken. -/
def Done (g : ℕ → ℝ) (N : ℕ) (s : EReal) (b : BitVec 32) : Prop :=
  ∃ a, IsFirstMin g N a ∧ s = (Real.sqrt (g a) : EReal) ∧ b = BitVec.ofNat 32 a

variable {i : grid0.Coords} {x : Vec Ideal S1024x16 .f32} {k : Vec Ideal S16x5888 .f32} {o : Vec Ideal S1024x1 .f32}
  {p : Vec Ideal S1024x1 .i32} {r : Fin 1024} {g : ℕ → ℝ}

/-- The first point leaves the first block's first minimum. -/
theorem point_first (hi : (i 0).val = 0) (hd : ∀ j : Fin 5888, k0_pay1 (F := Ideal) x k (ix2 r j) = (g j.val : EReal)) :
    Running g 5888 (nextScore i x k o (ix2 r 0)) (nextIdx i x k o p (ix2 r 0)) := by
  have h1 : atFirst i := (conds 0 i hi).1.mpr rfl
  obtain ⟨a, ha⟩ := exists_isFirstMin g (N := 5888) (by decide)
  have hd' : ∀ j : Fin 5888, 5888 ≤ j.val → k0_pay1 (F := Ideal) x k (ix2 r j) = ⊤ := fun j hj => absurd j.isLt (by omega)
  refine ⟨a, ha, ?_, ?_⟩
  · unfold nextScore
    rw [if_pos h1, pay3_eq]
    exact rowMin_of (V := 5888) le_rfl ha (fun j _ => hd j) hd'
  · unfold nextIdx
    rw [if_pos h1, pay4_eq, rowArg_of (V := 5888) hi le_rfl ha (fun j _ => hd j) hd']
    rw [Nat.mul_zero, Nat.zero_add]

/-- A block's first minimum taken over when it's strictly less: the two stored entries, from the entries before and the block's. -/
theorem running_select {N V a b : ℕ} {s : EReal} {q : BitVec 32} (ha : IsFirstMin g N a) (hb : IsFirstMin (fun j => g (N + j)) V b)
    (hs : s = (g a : EReal)) (hq : q = BitVec.ofNat 32 a) (c : BitVec 1)
    (hc : c = Ideal.cmp .olt ((g (N + b) : ℝ) : EReal) s) :
    Running g (N + V) (Scalar.select c ((g (N + b) : ℝ) : EReal) s) (Scalar.select c (BitVec.ofNat 32 (N + b)) q) := by
  subst hs hq
  have hc' : c = BitVec.ofBool (decide (g (N + b) < g a)) := by
    rw [hc]; show BitVec.ofBool (decide (((g (N + b) : ℝ) : EReal) < (g a : EReal))) = _
    congr 1; exact decide_eq_decide.mpr EReal.coe_lt_coe_iff
  refine ⟨_, ha.step hb, ?_, ?_⟩
  all_goals
    by_cases h : g (N + b) < g a
    · rw [if_pos h, hc', decide_eq_true h]; rfl
    · rw [if_neg h, hc', decide_eq_false h]; rfl

/-- A middle point brings its block in. -/
theorem point_mid {n : ℕ} (hi : (i 0).val = n) (hn : 0 < n) (hn' : n < 16)
    (h : Running g (5888 * n) (o (ix2 r 0)) (p (ix2 r 0)))
    (hd : ∀ j : Fin 5888, k0_pay1 (F := Ideal) x k (ix2 r j) = (g (5888 * n + j.val) : EReal)) :
    Running g (5888 * n + 5888) (nextScore i x k o (ix2 r 0)) (nextIdx i x k o p (ix2 r 0)) := by
  obtain ⟨c1, c2, -⟩ := conds ⟨n, by omega⟩ i hi
  have h1 : ¬ atFirst i := fun h => by have : n = 0 := c1.mp h; omega
  have h2 : atMid i := c2.mpr ⟨hn, hn'⟩
  obtain ⟨a, ha, hs, hq⟩ := h
  obtain ⟨b, hb⟩ := exists_isFirstMin (fun j => g (5888 * n + j)) (N := 5888) (by decide)
  have hd' : ∀ j : Fin 5888, 5888 ≤ j.val → k0_pay1 (F := Ideal) x k (ix2 r j) = ⊤ := fun j hj => absurd j.isLt (by omega)
  have hm := rowMin_of (V := 5888) le_rfl hb (fun j _ => hd j) hd'
  have hx := rowArg_of (V := 5888) hi le_rfl hb (fun j _ => hd j) hd'
  have e6 : k0_pay6 (F := Ideal) o (ix2 r 0) = o (ix2 r 0) := by unfold k0_pay6; pointwise!
  have e7 : k0_pay7 (F := Ideal) x k o (ix2 r 0) = Ideal.cmp .olt (rowMin (k0_pay1 x k) (ix2 r 0)) (k0_pay6 (F := Ideal) o (ix2 r 0)) := rfl
  have es : nextScore i x k o (ix2 r 0)
      = Scalar.select (k0_pay7 (F := Ideal) x k o (ix2 r 0)) (rowMin (k0_pay1 x k) (ix2 r 0)) (k0_pay6 (F := Ideal) o (ix2 r 0)) := by
    unfold nextScore; rw [if_neg h1, if_pos h2]; rfl
  have ei : nextIdx i x k o p (ix2 r 0)
      = Scalar.select (k0_pay7 (F := Ideal) x k o (ix2 r 0)) (rowArg i (k0_pay1 x k) (ix2 r 0)) (p (ix2 r 0)) := by
    unfold nextIdx; rw [if_neg h1, if_pos h2, pay9_eq]; pointwise!
  rw [es, ei, hm, hx, e6]
  exact running_select ha hb hs hq _ (by rw [e7, hm, e6])

/-- The last point brings the last block's first `5792` lanes in and takes the root. -/
theorem point_last (hi : (i 0).val = 16) (hg : ∀ n, 0 ≤ g n)
    (h : Running g (5888 * 16) (o (ix2 r 0)) (p (ix2 r 0)))
    (hd : ∀ j : Fin 5888, j.val < 5792 → k0_pay1 (F := Ideal) x k (ix2 r j) = (g (5888 * 16 + j.val) : EReal)) :
    Done g 100000 (nextScore i x k o (ix2 r 0)) (nextIdx i x k o p (ix2 r 0)) := by
  obtain ⟨c1, c2, -⟩ := conds 16 i hi
  have h1 : ¬ atFirst i := fun h => absurd (c1.mp h) (by decide)
  have h2 : ¬ atMid i := fun h => absurd (c2.mp h).2 (by decide)
  obtain ⟨a, ha, hs, hq⟩ := h
  obtain ⟨b, hb⟩ := exists_isFirstMin (fun j => g (5888 * 16 + j)) (N := 5792) (by decide)
  have hdm : ∀ j : Fin 5888, j.val < 5792 → k0_pay10 (F := Ideal) i x k (ix2 r j) = (g (5888 * 16 + j.val) : EReal) :=
    fun j hj => by rw [pay10_at i hi, if_pos hj, hd j hj]
  have hd' : ∀ j : Fin 5888, 5792 ≤ j.val → k0_pay10 (F := Ideal) i x k (ix2 r j) = ⊤ :=
    fun j hj => by rw [pay10_at i hi, if_neg (not_lt.mpr hj)]
  have hm := rowMin_of (V := 5792) (by decide) hb hdm hd'
  have hx := rowArg_of (V := 5792) hi (by decide) hb hdm hd'
  have e6 : k0_pay12 (F := Ideal) o (ix2 r 0) = o (ix2 r 0) := by unfold k0_pay12; pointwise!
  have e7 : k0_pay13 (F := Ideal) i x k o (ix2 r 0) = Ideal.cmp .olt (rowMin (k0_pay10 i x k) (ix2 r 0)) (k0_pay12 (F := Ideal) o (ix2 r 0)) := rfl
  have es : nextScore i x k o (ix2 r 0)
      = Ideal.sqrt (max (Scalar.select (k0_pay13 (F := Ideal) i x k o (ix2 r 0)) (rowMin (k0_pay10 i x k) (ix2 r 0)) (k0_pay12 (F := Ideal) o (ix2 r 0)))
          (Ideal.ofBits .f32 0x00000000#32)) := by
    unfold nextScore; rw [if_neg h1, if_neg h2]; rfl
  have ei : nextIdx i x k o p (ix2 r 0)
      = Scalar.select (k0_pay13 (F := Ideal) i x k o (ix2 r 0)) (rowArg i (k0_pay10 i x k) (ix2 r 0)) (p (ix2 r 0)) := by
    unfold nextIdx; rw [if_neg h1, if_neg h2, pay15_eq]; pointwise!
  obtain ⟨a', ha', hs', hq'⟩ := running_select ha hb hs hq (k0_pay13 (F := Ideal) i x k o (ix2 r 0)) (by rw [e7, hm, e6])
  refine ⟨a', ha', ?_, ?_⟩
  · rw [es, hm, e6, hs', Ideal.ofBits_zero_f32, max_eq_left (EReal.coe_nonneg.mpr (hg a')), Ideal.sqrt_coe, if_neg (not_lt.mpr (hg a'))]
  · rw [ei, hx]; exact hq'

end Cert.KernelIdeal.Block
-- ==== Proof.KeysIdeal.lean ====
/-
  The keys' window: what its staging buffer holds at a grid point, entry by entry, and that the kernel's two stored vectors
  depend on no lane past the last key.
-/
module

public import proofs.«01_k».proof.Proof.BlockIdeal
public import proofs.«01_k».proof.Proof.FrameIdeal
public import Idealize.ShloMosaic.Lib.ValueLayout
public import Idealize.ShloMosaic.Lib.StableHlo.Run

@[expose] public section

noncomputable section

namespace Cert.KernelIdeal.Keys

open Cert.KernelIdeal Cert.KernelIdeal.Gen Cert.KernelIdeal.Body Cert.KernelIdeal.Block
open Idealize.ShloMosaic Idealize.ShloMosaic.TcCoe
open Idealize.SL Idealize.SL.Sem

/-- The buffers at launch. -/
abbrev Mem := (ℓ : Loc nD τ sig) → Buf (Elt Ideal) ℓ

/-! ## The schedule -/

/-- Point `t`'s one coordinate is `t`. -/
theorem coord_val : ∀ t : Fin cfg0.N, (cfg0.grid.coords t 0).val = t.val := by decide +kernel

/-- There are seventeen points. -/
theorem val_lt (t : Fin cfg0.N) : t.val < 17 := N_0 ▸ t.isLt

/-- Every point's block of keys holds all sixteen coordinates. -/
theorem xsize_rows : ∀ t : Fin cfg0.N, win0_1.xsize (grid0.coords t) 0 = 16 := by decide +kernel

/-- The block at point `t` holds the keys from `5888 t` on, up to the last. -/
theorem xsize_lanes : ∀ t : Fin cfg0.N, win0_1.xsize (grid0.coords t) 1 = min 5888 (100000 - 5888 * t.val) := by decide +kernel

theorem index_keys : ∀ t : Fin cfg0.N, win0_1.index t 0 = 0 ∧ win0_1.index t 1 = t.val := by decide +kernel
theorem index_queries : ∀ t : Fin cfg0.N, win0_0.index t 0 = 0 ∧ win0_0.index t 1 = 0 := by decide +kernel

variable (m : Mem)

/-! ## The blocks' entries -/

/-- The pipeline finds the keys transposed. -/
theorem V_keys (c : Dev nD) : V m c main_call0_v0
    = transpose S16x100000 [1, 0] (m ((c : Thread nD τ).loc main_arg1)) transposes_S100000x16_S16x100000_1_0 := by
  unfold V V0
  simp only [hostOps0, List.flatten_cons, List.flatten_nil, List.append_nil, StableHlo.after_cons, StableHlo.after_nil]
  exact StableHlo.unary_result main_arg1 main_call0_v0 _ _ _ _

/-- Lane `j` of the keys' buffer at point `t` is key `5888 t + j`, when there is one, whatever the buffer held before. -/
theorem keys_entry (c : Dev nD) (t : Fin cfg0.N) (d) (j : Fin 5888) (h : 5888 * t.val + j.val < 100000) (a : Fin 16) :
    ((cfg0.win 1).fill (cfg0.grid.coords t) d (iblk m c 1 t) : Vec Ideal S16x5888 .f32) (ix2 a j)
      = (m ((c : Thread nD τ).loc main_arg1) : Vec Ideal S100000x16 .f32) (ix2 ⟨5888 * t.val + j.val, h⟩ a) := by
  have hmv : (cfg0.win 1).moved (cfg0.grid.coords t) (ix2 a j) = true := by
    refine ((cfg0.win 1).moved_iff _ _).mpr fun b => ?_
    match b with
    | ⟨0, _⟩ => show a.val < win0_1.xsize (grid0.coords t) 0; rw [xsize_rows]; exact a.isLt
    | ⟨1, _⟩ => show j.val < win0_1.xsize (grid0.coords t) 1; rw [xsize_lanes]; have := j.isLt; omega
  unfold Pipeline.Window.fill
  rw [dif_pos hmv]
  unfold iblk
  rw [View.read_apply]
  show V m c main_call0_v0 _ = _
  rw [V_keys]
  refine Eq.trans ?_ (ValueIdx.transpose_ix2_apply (m ((c : Thread nD τ).loc main_arg1)) transposes_S100000x16_S16x100000_1_0 a ⟨5888 * t.val + j.val, h⟩)
  congr 1
  funext b
  apply Fin.ext
  match b with
  | ⟨0, _⟩ => show win0_1.index t 0 * 16 + 1 * a.val = a.val; rw [(index_keys t).1]; omega
  | ⟨1, _⟩ => show win0_1.index t 1 * 5888 + 1 * j.val = 5888 * t.val + j.val; rw [(index_keys t).2]; omega

/-- The queries' buffer holds the queries. -/
theorem queries_eq (c : Dev nD) (t : Fin cfg0.N) : (iblk m c 0 t : Vec Ideal S1024x16 .f32) = m ((c : Thread nD τ).loc main_arg0) := by
  funext j
  unfold iblk
  rw [View.read_apply]
  show V m c main_arg0 _ = _
  rw [V_main_arg0]
  congr 1
  funext b
  apply Fin.ext
  match b with
  | ⟨0, _⟩ => show win0_0.index t 0 * 1024 + 1 * (j 0).val = (j 0).val; rw [(index_queries t).1]; omega
  | ⟨1, _⟩ => show win0_0.index t 1 * 16 + 1 * (j 1).val = (j 1).val; rw [(index_queries t).2]; omega

/-! ## No stored entry depends on a lane past the last key -/

/-- Column `j` of the block of squared distances depends on column `j` of the keys only. -/
theorem pay1_column (x : Vec Ideal S1024x16 .f32) {k k' : Vec Ideal S16x5888 .f32} (r : Fin 1024) (j : Fin 5888)
    (h : ∀ a, k (ix2 a j) = k' (ix2 a j)) : k0_pay1 (F := Ideal) x k (ix2 r j) = k0_pay1 (F := Ideal) x k' (ix2 r j) := by
  unfold k0_pay1
  pointwise!
  simp only [h]

/-- Two key blocks that agree on the lanes that hold keys give the same point. -/
theorem next_congr {n : ℕ} (hn : n < 17) {i : grid0.Coords} (hi : (i 0).val = n) (x : Vec Ideal S1024x16 .f32) {k k' : Vec Ideal S16x5888 .f32}
    (h : ∀ (j : Fin 5888), 5888 * n + j.val < 100000 → ∀ a, k (ix2 a j) = k' (ix2 a j))
    (o : Vec Ideal S1024x1 .f32) (p : Vec Ideal S1024x1 .i32) :
    nextScore i x k o = nextScore i x k' o ∧ nextIdx i x k o p = nextIdx i x k' o p := by
  by_cases h16 : n = 16
  · subst h16
    obtain ⟨c1, c2, -⟩ := conds 16 i hi
    have h1 : ¬ atFirst i := fun h => absurd (c1.mp h) (by decide)
    have h2 : ¬ atMid i := fun h => absurd (c2.mp h).2 (by decide)
    have e : k0_pay10 (F := Ideal) i x k = k0_pay10 (F := Ideal) i x k' := by
      funext q
      rw [eq_ix2 q]
      refine (pay10_at i hi x k _ _).trans (Eq.trans ?_ (pay10_at i hi x k' _ _).symm)
      by_cases hq : (q 1).val < 5792
      · rw [if_pos hq, if_pos hq]
        exact pay1_column x _ _ (h _ (by show 5888 * 16 + (q 1).val < 100000; omega))
      · rw [if_neg hq, if_neg hq]
    have e11 : k0_pay11 (F := Ideal) i x k = k0_pay11 (F := Ideal) i x k' := by rw [pay11_eq, pay11_eq, e]
    have e13 : k0_pay13 (F := Ideal) i x k o = k0_pay13 (F := Ideal) i x k' o := by unfold k0_pay13; rw [e11]
    constructor
    · unfold nextScore
      rw [if_neg h1, if_neg h2, if_neg h1, if_neg h2]
      unfold k0_pay14
      rw [e11, e13]
    · unfold nextIdx
      rw [if_neg h1, if_neg h2, if_neg h1, if_neg h2, pay15_eq, pay15_eq, e, e13]
  · have e : k = k' := by
      funext q
      rw [eq_ix2 q]
      exact h _ (by have : (q 1).val < 5888 := (q 1).isLt; show 5888 * n + (q 1).val < 100000; omega) _
    rw [e]; exact ⟨rfl, rfl⟩

/-- The first point doesn't depend on what the outputs held. -/
theorem next_first {i : grid0.Coords} (hi : (i 0).val = 0) (x : Vec Ideal S1024x16 .f32) (k : Vec Ideal S16x5888 .f32)
    (o o' : Vec Ideal S1024x1 .f32) (p p' : Vec Ideal S1024x1 .i32) :
    nextScore i x k o = nextScore i x k o' ∧ nextIdx i x k o p = nextIdx i x k o' p' := by
  have h1 : atFirst i := (conds 0 i hi).1.mpr rfl
  unfold nextScore nextIdx
  simp only [if_pos h1, and_self]

end Cert.KernelIdeal.Keys
-- ==== Proof.RunIdeal.lean ====
/-
  The kernel's run on extended reals: what its two result buffers hold at the end, as the seventeen points taken in order.
-/
module

public import proofs.«01_k».proof.Proof.KeysIdeal
public import Idealize.ShloMosaic.Lib.Pipeline.Value

@[expose] public section

noncomputable section

namespace Cert.KernelIdeal.Run

open Cert.KernelIdeal Cert.KernelIdeal.Gen Cert.KernelIdeal.Body Cert.KernelIdeal.Keys
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : Mem) (ρ : Dev nD → PrngReg)

/-- What the keys' staging buffer holds after point `t`: the fetched part of its block over an arbitrary rest. -/
def keysBlk (c : Dev nD) (t : Fin cfg0.N) : Vec Ideal S16x5888 .f32 :=
  (cfg0.win 1).fill (cfg0.grid.coords t) (fun _ => Classical.choice inferInstance) (iblk m c 1 t)

/-- The score and index buffers after point `n`. -/
def outs (c : Dev nD) : (n : ℕ) → n < cfg0.N → Vec Ideal S1024x1 .f32 × Vec Ideal S1024x1 .i32
  | 0, h => (nextScore (grid0.coords ⟨0, h⟩) (iblk m c 0 ⟨0, h⟩) (keysBlk m c ⟨0, h⟩) (fun _ => 0),
      nextIdx (grid0.coords ⟨0, h⟩) (iblk m c 0 ⟨0, h⟩) (keysBlk m c ⟨0, h⟩) (fun _ => 0) (fun _ => 0#32))
  | n + 1, h => (nextScore (grid0.coords ⟨n + 1, h⟩) (iblk m c 0 ⟨n + 1, h⟩) (keysBlk m c ⟨n + 1, h⟩) (outs c n (Nat.lt_of_succ_lt h)).1,
      nextIdx (grid0.coords ⟨n + 1, h⟩) (iblk m c 0 ⟨n + 1, h⟩) (keysBlk m c ⟨n + 1, h⟩) (outs c n (Nat.lt_of_succ_lt h)).1
        (outs c n (Nat.lt_of_succ_lt h)).2)

/-- The pipeline's proof data on core `c`: the arrays as the region finds them, the inputs' buffers left at their blocks, the
    outputs' at the running score and index. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => keysBlk m c t
    | ⟨2, _⟩ => (outs m c t.val t.isLt).1
    | ⟨3, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = keysBlk m c t := by dsimp only [dats]
theorem after_2 (c : Dev nD) (t : Fin cfg0.N) : (dats m 0 c).after 2 t = (outs m c t.val t.isLt).1 := by dsimp only [dats]
theorem after_3 (c : Dev nD) (t : Fin cfg0.N) : (dats m 0 c).after 3 t = (outs m c t.val t.isLt).2 := by dsimp only [dats]

/-! ## What the buffers hold before a point -/

/-- The queries' buffer holds the queries' block before every point. -/
theorem before_0 (c : Dev nD) (t : Fin cfg0.N) (d) : (dats m 0 c).before 0 t d = iblk m c 0 t :=
  before0_0_of m (dats m 0 c) (A_eq m c 0) (after_0 m c) t d
/-- The keys' buffer, fetched at every point, holds the block's fetched part over what it held. -/
theorem before_1 (c : Dev nD) (t : Fin cfg0.N) (d) :
    (dats m 0 c).before 1 t d = (cfg0.win 1).fill (cfg0.grid.coords t) d (iblk m c 1 t) := by
  rw [Dat.before_fetched _ 1 t (fetch0_1 t) d]
  rfl

/-- Every point writes both outputs. -/
theorem live (i : grid0.Coords) : cfg0.idle 2 i = false ∧ cfg0.idle 3 i = false := by
  have hlt : (i 0).val < 17 := (i 0).isLt
  have h : (!(k0_cond1 i == 1#1) && !(k0_cond2 i == 1#1) && !(k0_cond3 i == 1#1)) = false := by
    obtain ⟨h1, h2, h3⟩ := conds ⟨(i 0).val, hlt⟩ i rfl
    by_cases e1 : (i 0).val = 0
    · have : k0_cond1 i = 1#1 := h1.mpr e1
      rw [this]; rfl
    · by_cases e2 : (i 0).val < 16
      · have : k0_cond2 i = 1#1 := h2.mpr ⟨Nat.pos_of_ne_zero e1, e2⟩
        rw [this]; simp
      · have : k0_cond3 i = 1#1 := h3.mpr (show (i 0).val = 16 by omega)
        rw [this]; simp
  exact ⟨h, h⟩

/-- After the first point the outputs' buffers hold what the point before left. -/
theorem before_2 (c : Dev nD) (n : ℕ) (h : n + 1 < cfg0.N) (d) :
    (dats m 0 c).before 2 ⟨n + 1, h⟩ d = (outs m c n (Nat.lt_of_succ_lt h)).1 := by
  have hN : cfg0.N = 17 := N_0
  have hfl : (cfg0.win 2).flush ⟨n, Nat.lt_of_succ_lt h⟩ = false := by
    rw [Bool.eq_false_iff]
    intro hf
    have := (flush0_2 _).mp hf
    dsimp only at this
    omega
  rw [Dat.before_out_kept _ 2 rfl ⟨n + 1, h⟩ (Nat.succ_ne_zero n) hfl (fun i => (live i).1) (fun _ _ => rfl) d]
  exact after_2 m c ⟨n, _⟩

theorem before_3 (c : Dev nD) (n : ℕ) (h : n + 1 < cfg0.N) (d) :
    (dats m 0 c).before 3 ⟨n + 1, h⟩ d = (outs m c n (Nat.lt_of_succ_lt h)).2 := by
  have hN : cfg0.N = 17 := N_0
  have hfl : (cfg0.win 3).flush ⟨n, Nat.lt_of_succ_lt h⟩ = false := by
    rw [Bool.eq_false_iff]
    intro hf
    have := (flush0_3 _).mp hf
    dsimp only at this
    omega
  rw [Dat.before_out_kept _ 3 rfl ⟨n + 1, h⟩ (Nat.succ_ne_zero n) hfl (fun i => (live i).2) (fun _ _ => rfl) d]
  exact after_3 m c ⟨n, _⟩

/-- A point takes the outputs' buffers from what it finds to `outs`, whatever the lanes past the last key hold. -/
theorem step_eq (c : Dev nD) (t : Fin cfg0.N) (d1 d2 d3) :
    nextScore (grid0.coords t) (iblk m c 0 t) ((cfg0.win 1).fill (cfg0.grid.coords t) d1 (iblk m c 1 t)) ((dats m 0 c).before 2 t d2)
      = (outs m c t.val t.isLt).1
    ∧ nextIdx (grid0.coords t) (iblk m c 0 t) ((cfg0.win 1).fill (cfg0.grid.coords t) d1 (iblk m c 1 t)) ((dats m 0 c).before 2 t d2)
        ((dats m 0 c).before 3 t d3)
      = (outs m c t.val t.isLt).2 := by
  have hk (o p) := next_congr (val_lt t) (coord_val t) (iblk m c 0 t)
    (k := (cfg0.win 1).fill (cfg0.grid.coords t) d1 (iblk m c 1 t)) (k' := keysBlk m c t)
    (fun j hj a => (keys_entry m c t d1 j hj a).trans (keys_entry m c t _ j hj a).symm) o p
  obtain ⟨n, h⟩ := t
  match n with
  | 0 =>
    have hf (o o' p p') := next_first (coord_val ⟨0, h⟩) (iblk m c 0 ⟨0, h⟩) (keysBlk m c ⟨0, h⟩) o o' p p'
    exact ⟨(hk _ (fun _ => 0#32)).1.trans (hf _ _ (fun _ => 0#32) (fun _ => 0#32)).1, (hk _ _).2.trans (hf _ _ _ _).2⟩
  | n + 1 =>
    rw [before_2, before_3]
    exact hk _ _

/-! ## The body at a point -/

/-- What the body gets at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl, after_0, after_1, after_2, after_3]
  unfold keysBlk
  rw [Pipeline.Window.cut_fill]
  iintro ⟨HΦ, Ho, ⟨%d0, H0⟩, ⟨%d1, H1⟩, ⟨%d2, H2⟩, ⟨%d3, H3⟩⟩
  iapply (Cert.KernelIdeal.Body.sound_point c Set.univ (grid0.coords t) _ _ _ _ _ _ _ _ (iblk m c 0 t)
    ((cfg0.win 1).fill (cfg0.grid.coords t) d1 (iblk m c 1 t)) ((dats m 0 c).before 2 t d2) ((dats m 0 c).before 3 t d3) _)
  rw [(step_eq m c t d1 d2 d3).1, (step_eq m c t d1 d2 d3).2]
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexists d1; iexact H1
  isplitl [H2]; · iexact H2
  iexact H3

theorem body_obligation (c : Dev nD) : BodyObligationLoose (dats m 0 c) (defs₀ (F := Ideal)) Variants.none () Set.univ := fun t => by
  rw [bigSep_W0, bigSep_W0, FrameRun.defs₀_row, (live (cfg0.grid.coords t)).1]
  exact triple_restated (sound_body m c t) rfl .rfl fun _ => .rfl

/-! ## The run -/

/-- The run: every window's array at what its write-backs left, every other buffer at what the host line after the region leaves,
    and every counter at zero. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around (Q' := _) cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The last point. -/
abbrev tLast : Fin cfg0.N := ⟨16, by rw [show cfg0.N = 17 from N_0]; decide⟩

/-- The scores after the last point, as a column. -/
abbrev scores (c : Dev nD) : Buf (Elt Ideal) ((c : Thread nD τ).loc main_call0_v1_0) := (outs m c 16 tLast.isLt).1
/-- The indices after the last point. -/
abbrev indices (c : Dev nD) : Buf (Elt Ideal) ((c : Thread nD τ).loc main_v0_1) := (outs m c 16 tLast.isLt).2

theorem flush_last {w : Fin 4} (h : ∀ t : Fin cfg0.N, (cfg0.win w).flush t = true ↔ t.val % 17 = 16) (t : Fin cfg0.N)
    (hf : (cfg0.win w).flush t = true) : t = tLast := by
  have hN : cfg0.N = 17 := N_0
  have := (h t).mp hf
  have := t.isLt
  exact Fin.ext (show t.val = 16 by omega)

/-- The scores' one block is the whole array. -/
theorem whole_scores (G : Vec Ideal S1024x1 .f32) :
    (cfg0.win 2).cut (grid0.coords tLast) G = ((cfg0.win 2).blk tLast).view.read (Elt Ideal) G := by
  have hz' : (fun a => win0_2.index tLast a * main_call0_v1_0.ty.shape.size a) = fun _ => 0 := funext fun a => by fin_cases a <;> decide +kernel
  exact (Memref.read_access_unit_zero (Elt Ideal) main_call0_v1_0 hz' (fun a => by rw [congrFun hz' a]; simp) G).symm

/-- The indices' one block is the whole array. -/
theorem whole_indices (G : Vec Ideal S1024x1 .i32) :
    (cfg0.win 3).cut (grid0.coords tLast) G = ((cfg0.win 3).blk tLast).view.read (Elt Ideal) G := by
  have hz' : (fun a => win0_3.index tLast a * main_v0_1.ty.shape.size a) = fun _ => 0 := funext fun a => by fin_cases a <;> decide +kernel
  exact (Memref.read_access_unit_zero (Elt Ideal) main_v0_1 hz' (fun a => by rw [congrFun hz' a]; simp) G).symm

/-- The one write-back of the scores, after the last point, writes them all. -/
theorem flushed_scores (c : Dev nD) (t : Fin cfg0.N) (hf : (cfg0.win 2).flush t = true) :
    (dats m 0 c).flushed 2 t = ((cfg0.win 2).blk t).view.read (Elt Ideal) (scores m c) := by
  obtain rfl := flush_last flush0_2 t hf
  show (cfg0.win 2).cut (grid0.coords tLast) ((dats m 0 c).after 2 tLast) = _
  rw [after_2]
  exact whole_scores _

/-- The one write-back of the indices, after the last point, writes them all. -/
theorem flushed_indices (c : Dev nD) (t : Fin cfg0.N) (hf : (cfg0.win 3).flush t = true) :
    (dats m 0 c).flushed 3 t = ((cfg0.win 3).blk t).view.read (Elt Ideal) (indices m c) := by
  obtain rfl := flush_last flush0_3 t hf
  show (cfg0.win 3).cut (grid0.coords tLast) ((dats m 0 c).after 3 tLast) = _
  rw [after_3]
  exact whole_indices _

/-- The scores' array ends at the scores. -/
theorem final_scores (c : Dev nD) : (dats m 0 c).arrAt 2 cfg0.N = scores m c :=
  (dats m 0 c).arrAt_eq_of_cover 2 (scores m c) (flushed_scores m c) fun i =>
    ⟨tLast, (flush0_2 tLast).mpr rfl, by
      show i ∈ ((View.whole main_call0_v1_0).slice (win0_2.rect tLast)).set
      rw [View.set_slice_whole, Rect.mem_set_unit]
      intro a
      have h0 : (i 0 : Nat) < 1024 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1024 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The indices' array ends at the indices. -/
theorem final_indices (c : Dev nD) : (dats m 0 c).arrAt 3 cfg0.N = indices m c :=
  (dats m 0 c).arrAt_eq_of_cover 3 (indices m c) (flushed_indices m c) fun i =>
    ⟨tLast, (flush0_3 tLast).mpr rfl, by
      show i ∈ ((View.whole main_v0_1).slice (win0_3.rect tLast)).set
      rw [View.set_slice_whole, Rect.mem_set_unit]
      intro a
      have h0 : (i 0 : Nat) < 1024 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1024 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The host line after the region lays the scores out as a vector. -/
theorem tail_scores (c : Dev nD) : Pipeline.afterTail₀ cfgs (dats m) 0 (V0 m) [hostOps1] c main_v0_0
    = shapeCast S1024 (scores m c : Vec Ideal S1024x1 .f32) shapeCasts_S1024x1_S1024 := by
  unfold Pipeline.afterTail₀
  simp only [hostOps1, List.flatten_cons, List.flatten_nil, List.append_nil, StableHlo.after_cons, StableHlo.after_nil]
  refine (StableHlo.reshape_result (Val := Elt Ideal) main_call0_v1_0 main_v0_0 rfl shapeCasts_S1024x1_S1024 _ _ _).trans ?_
  show (fun i => shapeCast S1024 _ _ i) = _
  rw [← final_scores m c]
  exact congrArg (fun f => shapeCast S1024 f shapeCasts_S1024x1_S1024)
    (Pipeline.withArrays_arr spec0 launch0.win.arr_inj c (V0 m c) (fun w => (dats m 0 c).arrAt w cfg0.N) 2)

/-- The kernel's run: the two results as the seventeen points leave them, and the arguments unchanged. -/
theorem run : θ_run defs (onTc (τ := τ) (main (F := Ideal))) ⟨m, fun _ => 0, ρ⟩ fun r => ∀ c : Dev nD,
      r.2.mem ((c : Thread nD τ).loc main_v0_0) = shapeCast S1024 (scores m c : Vec Ideal S1024x1 .f32) shapeCasts_S1024x1_S1024
      ∧ r.2.mem ((c : Thread nD τ).loc main_v0_1) = indices m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0_0 (Pipeline.mem_restRefs_of main_v0_0 (by decide) (by decide))).trans (tail_scores m c),
      ((h c).1 3).trans (final_indices m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run
-- ==== Proof.ValueIdeal.lean ====
/-
  What the kernel leaves on real inputs: per query, the distance to its nearest key and that key's index, the first of equals.
-/
module

public import proofs.«01_k».proof.Proof.RunIdeal

@[expose] public section

noncomputable section

namespace Cert.KernelIdeal.Value

open Cert.KernelIdeal Cert.KernelIdeal.Gen Cert.KernelIdeal.Body Cert.KernelIdeal.Block Cert.KernelIdeal.Keys Cert.KernelIdeal.Run Cert.NN
open Idealize.ShloMosaic Idealize.ShloMosaic.TcCoe
open Idealize.SL Idealize.SL.Sem

variable {m : Mem} {c : Dev nD} {X : Fin 1024 → Fin 16 → ℝ} {Y : ℕ → Fin 16 → ℝ}

/-- Core `c`'s queries are the reals `X`. -/
def QueriesAre (m : Mem) (c : Dev nD) (X : Fin 1024 → Fin 16 → ℝ) : Prop :=
  ∀ r a, (m ((c : Thread nD τ).loc main_arg0) : Vec Ideal S1024x16 .f32) (ix2 r a) = (X r a : EReal)

/-- Core `c`'s keys are the reals `Y`. -/
def KeysAre (m : Mem) (c : Dev nD) (Y : ℕ → Fin 16 → ℝ) : Prop :=
  ∀ n (h : n < 100000) a, (m ((c : Thread nD τ).loc main_arg1) : Vec Ideal S100000x16 .f32) (ix2 ⟨n, h⟩ a) = (Y n a : EReal)

/-- Point `t`'s block holds the squared distances from each query to the keys from `5888 t` on. -/
theorem block_real (hX : QueriesAre m c X) (hY : KeysAre m c Y) (t : Fin cfg0.N) (r : Fin 1024) (j : Fin 5888)
    (h : 5888 * t.val + j.val < 100000) :
    k0_pay1 (F := Ideal) (iblk m c 0 t) (keysBlk m c t) (ix2 r j) = (dist2 (X r) (Y (5888 * t.val + j.val)) : EReal) :=
  pay1_real _ _ r j (X r) (Y (5888 * t.val + j.val))
    (fun a => (congrFun (queries_eq m c t) (ix2 r a)).trans (hX r a))
    (fun a => (keys_entry m c t _ j h a).trans (hY _ h a))

/-- After point `n`, not the last, the outputs hold each query's first minimum over the keys seen so far. -/
theorem outs_running (hX : QueriesAre m c X) (hY : KeysAre m c Y) (r : Fin 1024) : ∀ (n : ℕ) (h : n < cfg0.N), n < 16 →
    Running (fun k => dist2 (X r) (Y k)) (5888 * n + 5888) ((outs m c n h).1 (ix2 r 0)) ((outs m c n h).2 (ix2 r 0))
  | 0, h, _ => by
    unfold outs
    refine point_first (g := fun k => dist2 (X r) (Y k)) (coord_val ⟨0, h⟩) fun j => ?_
    have hj := j.isLt
    rw [block_real hX hY ⟨0, h⟩ r j (by show 5888 * 0 + j.val < 100000; omega)]
    show (((dist2 (X r) (Y (5888 * 0 + j.val)) : ℝ)) : EReal) = _
    rw [Nat.mul_zero, Nat.zero_add]
  | n + 1, h, hn => by
    have ih := outs_running hX hY r n (Nat.lt_of_succ_lt h) (by omega)
    unfold outs
    refine point_mid (g := fun k => dist2 (X r) (Y k)) (coord_val ⟨n + 1, h⟩) (Nat.succ_pos n) hn ?_ fun j => ?_
    · rw [show 5888 * (n + 1) = 5888 * n + 5888 by omega]; exact ih
    · have hj := j.isLt
      exact block_real hX hY ⟨n + 1, h⟩ r j (by show 5888 * (n + 1) + j.val < 100000; omega)

/-- The point after point `15` leaves each query's distance to its nearest key and that key's index. -/
theorem outs_last (hX : QueriesAre m c X) (hY : KeysAre m c Y) (r : Fin 1024) (n : ℕ) (h : n + 1 < cfg0.N) (hn : n + 1 = 16) :
    Done (fun k => dist2 (X r) (Y k)) 100000 ((outs m c (n + 1) h).1 (ix2 r 0)) ((outs m c (n + 1) h).2 (ix2 r 0)) := by
  have ih := outs_running hX hY r n (Nat.lt_of_succ_lt h) (by omega)
  unfold outs
  refine point_last (g := fun k => dist2 (X r) (Y k)) ((coord_val ⟨n + 1, h⟩).trans hn) (fun _ => dist2_nonneg _ _) ?_ fun j hj => ?_
  · rw [show 5888 * 16 = 5888 * n + 5888 by omega]; exact ih
  · rw [block_real hX hY ⟨n + 1, h⟩ r j (by show 5888 * (n + 1) + j.val < 100000; omega)]
    show ((dist2 (X r) (Y (5888 * (n + 1) + j.val)) : ℝ) : EReal) = _
    rw [hn]

/-- At the end the outputs hold each query's distance to its nearest key and that key's index. -/
theorem final_done (hX : QueriesAre m c X) (hY : KeysAre m c Y) (r : Fin 1024) :
    Done (fun k => dist2 (X r) (Y k)) 100000 ((scores m c : Vec Ideal S1024x1 .f32) (ix2 r 0)) ((indices m c : Vec Ideal S1024x1 .i32) (ix2 r 0)) :=
  outs_last hX hY r 15 tLast.isLt rfl

end Cert.KernelIdeal.Value
-- ==== Proof.FirstSorted.lean ====
/-
  A stable sort's first element, the first of the least, and a top-one search read off it.
-/
module

public import proofs.«01_k».proof.Proof.FirstMin
public import Idealize.ShloMosaic.PureOps
public import Idealize.ShloMosaic.Lib.Pipeline.Value
public import Idealize.ShloMosaic.Lib.Pointwise.Index

@[expose] public section

namespace Cert.NN

open Idealize.ShloMosaic

/-- What a list's head has to be: a member of `l` at the least value, and the first such. -/
def HeadFirstMin {n : ℕ} (f : ℕ → ℝ) (l : List (Fin n)) (h : Fin n) : Prop :=
  h ∈ l ∧ ∀ x ∈ l, f h.val ≤ f x.val ∧ (x < h → f h.val < f x.val)

/-- Sorting an increasing list of positions by value, stably, puts the first of the least at its head. -/
theorem stableSort_head {n : ℕ} (f : ℕ → ℝ) (before : Fin n → Fin n → Bool) (hb : ∀ k k', before k k' = true ↔ f k.val < f k'.val) :
    ∀ (a : Fin n) (l : List (Fin n)), (a :: l).Pairwise (· < ·) →
      ∃ h t, stableSort before (a :: l) = h :: t ∧ HeadFirstMin f (a :: l) h
  | a, [], _ => ⟨a, [], rfl, List.mem_cons_self, fun x hx => by
      obtain rfl : x = a := List.mem_singleton.mp hx
      exact ⟨le_rfl, fun h => absurd h (lt_irrefl _)⟩⟩
  | a, b :: l, hl => by
    obtain ⟨ha, hl'⟩ := List.pairwise_cons.mp hl
    obtain ⟨h, t, e, hm, hmin⟩ := stableSort_head f before hb b l hl'
    have hah : a < h := ha h hm
    have es : stableSort before (a :: b :: l) = insertBefore before a (h :: t) := by rw [← e]; rfl
    rw [es]
    unfold insertBefore
    by_cases hlt : f h.val < f a.val
    · rw [if_pos ((hb h a).mpr hlt)]
      refine ⟨h, _, rfl, List.mem_cons_of_mem _ hm, fun x hx => ?_⟩
      rcases List.mem_cons.mp hx with rfl | hx
      · exact ⟨hlt.le, fun _ => hlt⟩
      · exact hmin x hx
    · rw [if_neg fun hh => hlt ((hb h a).mp hh)]
      refine ⟨a, _, rfl, List.mem_cons_self, fun x hx => ?_⟩
      rcases List.mem_cons.mp hx with rfl | hx
      · exact ⟨le_rfl, fun h => absurd h (lt_irrefl _)⟩
      · exact ⟨(not_lt.mp hlt).trans (hmin x hx).1, fun hxa => absurd (ha x hx) (not_lt.mpr hxa.le)⟩

/-- The position a stable sort by value puts first is the first minimum. -/
theorem sortedFrom_first {n : ℕ} (f : ℕ → ℝ) (before : Fin n → Fin n → Bool) (hb : ∀ k k', before k k' = true ↔ f k.val < f k'.val)
    (z : Fin n) (hz : z.val = 0) : IsFirstMin f n (sortedFrom before z).val := by
  obtain ⟨N, rfl⟩ : ∃ N, n = N + 1 := ⟨n - 1, by have := z.isLt; omega⟩
  have hl : (List.finRange (N + 1)).Pairwise (· < ·) := List.pairwise_lt_finRange _
  obtain ⟨a, l, hal⟩ : ∃ a l, List.finRange (N + 1) = a :: l := ⟨_, _, List.finRange_succ⟩
  rw [hal] at hl
  obtain ⟨h, t, e, -, hmin⟩ := stableSort_head f before hb a l hl
  have hs : sortPositions (N + 1) before = h :: t := by unfold sortPositions; rw [hal, e]
  have hh : sortedFrom before z = h := by
    unfold sortedFrom
    rw [List.get_eq_getElem]
    simp only [hs, Fin.val_cast, hz, List.getElem_cons_zero]
  have hmem (x : Fin (N + 1)) : x ∈ a :: l := hal ▸ List.mem_finRange x
  rw [hh]
  exact ⟨h.isLt, fun k hk => (hmin ⟨k, hk⟩ (hmem _)).1, fun k hk => (hmin ⟨k, hk.trans h.isLt⟩ (hmem _)).2 hk⟩

/-- A matrix index moved along its second axis. -/
theorem along_ix2 {n0 n1 : ℕ} (r : Fin n0) (k k' : Fin n1) (hd : 1 < 2) :
    Shape.Idx.along (s := ⟨2, ![n0, n1]⟩) (ix2 r k) (⟨1, hd⟩ : Fin 2) k' = ix2 r k' := by
  funext a
  unfold Shape.Idx.along
  match a with
  | ⟨0, _⟩ => exact Function.update_of_ne (Fin.ne_of_val_ne (show 0 ≠ 1 by decide)) _ _
  | ⟨1, _⟩ => exact Function.update_self ..

/-- The top one of a matrix's row: the value and the position that the stable sort by `gt` puts first. -/
theorem topK_one {α : Type} {n0 n1 : ℕ} (gt : α → α → BitVec 1) (x : (⟨2, ![n0, n1]⟩ : Shape).Idx → α)
    (h : (⟨2, ![n0, n1]⟩ : Shape).Slices (fun _ => 0) ⟨2, ![n0, 1]⟩) (r : Fin n0) (z : Fin n1) (hz : z.val = 0) :
    (Host.topK ⟨2, ![n0, 1]⟩ 1 gt x h).1 (ix2 r 0) = x (ix2 r (sortedFrom (fun k k' => gt (x (ix2 r k)) (x (ix2 r k')) == 1#1) z))
    ∧ (Host.topK ⟨2, ![n0, 1]⟩ 1 gt x h).2 (ix2 r 0)
      = BitVec.ofNat 32 (sortedFrom (fun k k' => gt (x (ix2 r k)) (x (ix2 r k')) == 1#1) z).val := by
  have hk : ∀ a : Fin 2, ((ix2 r z) a).val = 0 + ((ix2 r (0 : Fin 1)) (a.cast h.1.symm)).val := fun a => by
    match a with
    | ⟨0, _⟩ => exact (Nat.zero_add _).symm
    | ⟨1, _⟩ => exact hz
  have hd : 1 < (⟨2, ![n0, n1]⟩ : Shape).rank := Nat.lt_succ_self 1
  have e : sortedFrom (fun k k' : Fin n1 => gt (x (Shape.Idx.along (s := ⟨2, ![n0, n1]⟩) (ix2 r z) (⟨1, hd⟩ : Fin 2) k))
        (x (Shape.Idx.along (s := ⟨2, ![n0, n1]⟩) (ix2 r z) (⟨1, hd⟩ : Fin 2) k')) == 1#1) z
      = sortedFrom (fun k k' => gt (x (ix2 r k)) (x (ix2 r k')) == 1#1) z :=
    congrArg (fun b => sortedFrom b z) (funext fun k => funext fun k' => by rw [along_ix2, along_ix2])
  rw [← e]
  constructor
  · unfold Host.topK
    dsimp only
    refine (extractStridedSlice_apply _ _ h (ix2 r 0) (ix2 r z) hk).trans ?_
    unfold Host.sort2
    rw [dif_pos hd]
    exact congrArg x (along_ix2 r z _ hd)
  · unfold Host.topK
    dsimp only
    refine (extractStridedSlice_apply _ _ h (ix2 r 0) (ix2 r z) hk).trans ?_
    unfold Host.sort2
    rw [dif_pos hd]
    exact congrArg (fun i : (⟨2, ![n0, n1]⟩ : Shape).Idx => BitVec.ofNat 32 (i (⟨1, hd⟩ : Fin 2)).val) (along_ix2 r z _ hd)

end Cert.NN
-- ==== Proof.RefIdeal.lean ====
/-
  What the reference computes on real inputs: per query, the distance to its nearest key and that key's index, the first of equals.
-/
module

public import proofs.«01_k».proof.Proof.FirstSorted
public import proofs.«01_k».proof.Proof.BlockIdeal
public import proofs.«01_k».proof.Proof.Gen.ReferenceIdeal.Run
public import Idealize.ShloMosaic.Lib.Pointwise.Tactic
public import Idealize.ShloMosaic.Lib.Pointwise.Reduce
public import Idealize.ShloMosaic.Lib.Pointwise.Sums
public import Idealize.ShloMosaic.Lib.Pointwise.Reshape
public import Idealize.ShloMosaic.Lib.Pointwise.Contract
public import Idealize.ShloMosaic.Lib.IdealHost

@[expose] public section

noncomputable section

namespace Cert.ReferenceIdeal.Nearest

open Cert.ReferenceIdeal Cert.ReferenceIdeal.Gen Cert.NN
open Cert.KernelIdeal.Block (Done ofBits_two)
open Idealize.ShloMosaic

/-- The squared distances of every query to every key. -/
def sqDist (q : FVec Ideal S1024x16 .f32) (k : FVec Ideal S100000x16 .f32) : FVec Ideal S1024x100000 .f32 :=
  maximumf (addf (subf
        (broadcastInDim S1024x100000 ![0, 1] bcast_S1024x1_S1024x100000_0_1 (broadcastInDim S1024x1 ![0] bcast_S1024_S1024x1_0
          (Host.reduceAdd (mulf q q) (constant S_ .f32 0x00000000#32) reducesTo_S1024x16_S1024_d1 h_S_)))
        (mulf (broadcastInDim S1024x100000 ![] bcast_S_S1024x100000 (constant S_ .f32 0x40000000#32))
          (Host.dotGeneral dot_S1024x16_S16x100000_S1024x100000_1_0_0_1_n_n none q
            (transpose S16x100000 [1, 0] k transposes_S100000x16_S16x100000_1_0))))
      (broadcastInDim S1024x100000 ![0, 1] bcast_S1x100000_S1024x100000_0_1 (broadcastInDim S1x100000 ![1] bcast_S100000_S1x100000_1
        (Host.reduceAdd (mulf k k) (constant S_ .f32 0x00000000#32) reducesTo_S100000x16_S100000_d1 h_S_))))
    (broadcastInDim S1024x100000 ![] bcast_S_S1024x100000 (constant S_ .f32 0x00000000#32))

/-- The top-one search on the negated squared distances: values and indices. -/
def best (q : FVec Ideal S1024x16 .f32) (k : FVec Ideal S100000x16 .f32) : FVec Ideal S1024x1 .f32 × IVec S1024x1 32 :=
  Host.topK S1024x1 1 (FloatOps.cmpfTotal (F := Ideal) .gt) (Host.negf (sqDist q k)) sliceFits_S1024x100000_S1024x1

/-- The reference's first result: the mean of the one nearest distance. -/
def score (q : FVec Ideal S1024x16 .f32) (k : FVec Ideal S100000x16 .f32) : FVec Ideal S1024 .f32 :=
  Host.divf (Host.reduceAdd (Host.sqrt (Host.negf (best q k).1)) (constant S_ .f32 0x00000000#32) reducesTo_S1024x1_S1024_d1 h_S_)
    (broadcastInDim S1024 ![] bcast_S_S1024 (constant S_ .f32 0x3F800000#32))

variable {q : FVec Ideal S1024x16 .f32} {k : FVec Ideal S100000x16 .f32} {X : Fin 1024 → Fin 16 → ℝ} {Y : ℕ → Fin 16 → ℝ}

/-- On reals, entry `(r, n)` is the squared distance of query `r` to key `n`. -/
theorem sqDist_at (hX : ∀ r a, q (ix2 r a) = (X r a : EReal)) (hY : ∀ n (h : n < 100000) a, k (ix2 ⟨n, h⟩ a) = (Y n a : EReal))
    (r : Fin 1024) (n : Fin 100000) : sqDist q k (ix2 r n) = (dist2 (X r) (Y n.val) : EReal) := by
  have hY' : ∀ a, k (ix2 n a) = (Y n.val a : EReal) := hY n.val n.isLt
  rw [← reference_form, ← ofBits_two]
  simp only [← hX, ← hY']
  unfold sqDist
  pointwise!

/-- The search's order on a row: by squared distance, least first. -/
theorem before_iff (hX : ∀ r a, q (ix2 r a) = (X r a : EReal)) (hY : ∀ n (h : n < 100000) a, k (ix2 ⟨n, h⟩ a) = (Y n a : EReal))
    (r : Fin 1024) (n n' : Fin 100000) :
    (FloatOps.cmpfTotal (F := Ideal) .gt (Host.negf (sqDist q k) (ix2 r n)) (Host.negf (sqDist q k) (ix2 r n')) == 1#1) = true
      ↔ dist2 (X r) (Y n.val) < dist2 (X r) (Y n'.val) := by
  show (BitVec.ofBool (decide (-(sqDist q k (ix2 r n')) < -(sqDist q k (ix2 r n)))) == 1#1) = true ↔ _
  rw [sqDist_at hX hY, sqDist_at hX hY]
  have hlt : -((dist2 (X r) (Y n'.val) : ℝ) : EReal) < -((dist2 (X r) (Y n.val) : ℝ) : EReal)
      ↔ dist2 (X r) (Y n.val) < dist2 (X r) (Y n'.val) := EReal.neg_lt_neg_iff.trans EReal.coe_lt_coe_iff
  by_cases h : -((dist2 (X r) (Y n'.val) : ℝ) : EReal) < -((dist2 (X r) (Y n.val) : ℝ) : EReal)
  · rw [decide_eq_true h]; exact ⟨fun _ => hlt.mp h, fun _ => rfl⟩
  · rw [decide_eq_false h]; exact ⟨fun hh => absurd hh (by decide), fun hh => absurd (hlt.mpr hh) h⟩

/-- The mean of one distance is that distance. -/
theorem score_at (r : Fin 1024) : score q k (ix1 r) = Ideal.sqrt (-(best q k).1 (ix2 r 0)) := by
  unfold score
  pointwise!
  rw [Fin.sum_univ_one, ← EReal.coe_one, Ideal.div_coe one_ne_zero, div_one, EReal.coe_one, mul_one]

/-- The reference's two results at query `r`: the distance to the nearest key and that key's index. -/
theorem done (hX : ∀ r a, q (ix2 r a) = (X r a : EReal)) (hY : ∀ n (h : n < 100000) a, k (ix2 ⟨n, h⟩ a) = (Y n a : EReal))
    (r : Fin 1024) : Done (fun n => dist2 (X r) (Y n)) 100000 (score q k (ix1 r)) ((best q k).2 (ix2 r 0)) := by
  have hb := topK_one (FloatOps.cmpfTotal (F := Ideal) .gt) (Host.negf (sqDist q k)) sliceFits_S1024x100000_S1024x1 r (0 : Fin 100000) rfl
  refine ⟨_, sortedFrom_first (fun n => dist2 (X r) (Y n)) _ (before_iff hX hY r) (0 : Fin 100000) rfl, ?_, hb.2⟩
  have h1 : (best q k).1 (ix2 r 0) = -(sqDist q k (ix2 r _)) := hb.1
  rw [sqDist_at hX hY] at h1
  rw [score_at, h1, neg_neg, Ideal.sqrt_coe, if_neg (not_lt.mpr (dist2_nonneg _ _))]

end Cert.ReferenceIdeal.Nearest
-- ==== Proof.FiniteIdeal.lean ====
/-
  The precondition read back: every query and every key is a real number.
-/
module

public import proofs.«01_k».proof.Pre_finite
public import proofs.«01_k».proof.Proof.BlockIdeal
public import Idealize.ShloMosaic.Lib.ReduceAll
public import Idealize.ShloMosaic.Lib.Decide

@[expose] public section

namespace Cert.Pre_finite

open Idealize.ShloMosaic

/-- The shape relations the precondition's operations take. -/
instance facts : Facts where
  bcast_S_S1024x16 := by decide
  reducesTo_S1024x16_S_d0_1 := by decide
  h_S_ := by decide
  bcast_S_S100000x16 := by decide
  reducesTo_S100000x16_S_d0_1 := by decide

/-- An extended real whose absolute value is below `+∞` is a real. -/
theorem real_of_abs_lt {x : EReal} (h : Ideal.cmp .olt (max x (-x)) (Ideal.ofBits .f32 0x7F800000#32) = 1#1) : ∃ y : ℝ, x = (y : EReal) := by
  rw [Cert.KernelIdeal.Block.ofBits_inf] at h
  induction x using EReal.rec with
  | coe y => exact ⟨y, rfl⟩
  | bot => exact absurd h (by simp [Ideal.cmp])
  | top => exact absurd h (by simp [Ideal.cmp])

/-- The two arrays of a memory that meets the precondition hold reals. -/
theorem reals [Facts] {q : FVec Ideal S1024x16 .f32} {k : FVec Ideal S100000x16 .f32} (h : fn (F := Ideal) q k = fun _ => 1#1) :
    (∀ i, ∃ y : ℝ, q i = (y : EReal)) ∧ ∀ i, ∃ y : ℝ, k i = (y : EReal) := by
  have : Subsingleton S_.Idx := ⟨fun a b => funext fun d => d.elim0⟩
  have h0 : IntOp.andi _ _ = 1#1 := congrFun h (fun d => d.elim0)
  obtain ⟨hq, hk⟩ := IntOp.andi_eq_one.1 h0
  exact ⟨fun i => real_of_abs_lt (Host.reduce_andi_all _ _ _ _ _ hq i), fun i => real_of_abs_lt (Host.reduce_andi_all _ _ _ _ _ hk i)⟩

end Cert.Pre_finite
-- ==== Proof.EqualIdeal.lean ====
/-
  The equation: on finite inputs the kernel's two results are the reference's.
-/
module

public import proofs.«01_k».proof.Proof.ValueIdeal
public import proofs.«01_k».proof.Proof.RefIdeal
public import proofs.«01_k».proof.Proof.FiniteIdeal

@[expose] public section

noncomputable section

namespace Cert.Equal

open Cert.KernelIdeal Cert.KernelIdeal.Keys Cert.KernelIdeal.Run Cert.KernelIdeal.Block Cert.KernelIdeal.Value Cert.NN
open Idealize.ShloMosaic Idealize.ShloMosaic.TcCoe
open Idealize.SL Idealize.SL.Sem

/-- The distance and the index are determined. -/
theorem done_unique {g : ℕ → ℝ} {N : ℕ} {s s' : EReal} {b b' : BitVec 32} (h : Done g N s b) (h' : Done g N s' b') : s = s' ∧ b = b' := by
  obtain ⟨a, ha, rfl, rfl⟩ := h
  obtain ⟨a', ha', rfl, rfl⟩ := h'
  rw [ha.unique ha']
  exact ⟨rfl, rfl⟩

/-- The real arrays that a core's finite arguments are. -/
theorem exist_reals {m : Mem} {c : Dev nD}
    (h : Cert.Pre_finite.fn (F := Ideal) (m ((c : Thread nD τ).loc main_arg0)) (m ((c : Thread nD τ).loc main_arg1)) = fun _ => 1#1) :
    ∃ (X : Fin 1024 → Fin 16 → ℝ) (Y : ℕ → Fin 16 → ℝ), QueriesAre m c X ∧ KeysAre m c Y := by
  obtain ⟨hq, hk⟩ := Cert.Pre_finite.reals h
  choose X hX using fun (r : Fin 1024) (a : Fin 16) => hq (ix2 r a)
  choose Y hY using fun (n : Fin 100000) (a : Fin 16) => hk (ix2 n a)
  refine ⟨X, fun n a => if h : n < 100000 then Y ⟨n, h⟩ a else 0, hX, fun n h a => ?_⟩
  refine (hY ⟨n, h⟩ a).trans ?_
  beta_reduce
  rw [dif_pos h]

variable {m : Mem} {c : Dev nD} {X : Fin 1024 → Fin 16 → ℝ} {Y : ℕ → Fin 16 → ℝ}

/-- The kernel's and the reference's results at query `r`. -/
theorem row (hX : QueriesAre m c X) (hY : KeysAre m c Y) (r : Fin 1024) :
    (scores m c : Vec Ideal S1024x1 .f32) (ix2 r 0)
        = Cert.ReferenceIdeal.Nearest.score (m ((c : Thread nD τ).loc main_arg0)) (m ((c : Thread nD τ).loc main_arg1)) (ix1 r)
    ∧ (indices m c : Vec Ideal S1024x1 .i32) (ix2 r 0)
        = (Cert.ReferenceIdeal.Nearest.best (m ((c : Thread nD τ).loc main_arg0)) (m ((c : Thread nD τ).loc main_arg1))).2 (ix2 r 0) :=
  done_unique (final_done hX hY r) (Cert.ReferenceIdeal.Nearest.done hX hY r)

/-- The first results: the distances to the nearest keys. -/
theorem scores_eq (hX : QueriesAre m c X) (hY : KeysAre m c Y) :
    (shapeCast S1024 (scores m c : Vec Ideal S1024x1 .f32) Cert.KernelIdeal.Gen.shapeCasts_S1024x1_S1024 : FVec Ideal S1024 .f32)
      = Cert.ReferenceIdeal.Nearest.score (m ((c : Thread nD τ).loc main_arg0)) (m ((c : Thread nD τ).loc main_arg1)) := by
  funext i
  obtain ⟨r, rfl⟩ : ∃ r : Fin 1024, i = ix1 r := ⟨i 0, funext fun a => by match a with | ⟨0, _⟩ => rfl⟩
  refine Eq.trans ?_ (row hX hY r).1
  generalize (scores m c : Vec Ideal S1024x1 .f32) = f
  pointwise!

/-- The second results: the nearest keys' indices. -/
theorem indices_eq (hX : QueriesAre m c X) (hY : KeysAre m c Y) :
    (indices m c : Vec Ideal S1024x1 .i32)
      = (Cert.ReferenceIdeal.Nearest.best (m ((c : Thread nD τ).loc main_arg0)) (m ((c : Thread nD τ).loc main_arg1))).2 := by
  funext i
  obtain ⟨r, rfl⟩ : ∃ r : Fin 1024, i = ix2 r 0 :=
    ⟨i 0, (eq_ix2 i).trans (congrArg (ix2 (i 0)) (Fin.ext (by have : (i 1).val < 1 := (i 1).isLt; show (i 1).val = 0; omega)))⟩
  exact (row hX hY r).2

end Cert.Equal
-- ==== Proof.lean ====
/-
  The certificate's claims, assembled: the three programs' frames and, on finite inputs, the equality of the kernel's two results
  with the reference's on extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.FrameIdeal
public import proofs.«01_k».proof.Proof.EqualIdeal
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m g _ => Cert.Kernel.FrameRun.frame m g

/-- The frame of the kernel on extended reals. -/
theorem frame_ideal : Cert.quiescent_KernelIdeal := fun m g _ => Cert.KernelIdeal.FrameRun.frame m g

/-- The same from finite inputs. -/
theorem frame_ideal_finite : Cert.quiescent_KernelIdeal_pre_finite := fun m g _ => frame_ideal m g trivial

/-- The reference's frame. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The same from finite inputs. -/
theorem frame_reference_finite : Cert.quiescent_ReferenceIdeal_pre_finite := fun m g _ => frame_reference m g trivial

/-- On finite inputs the kernel and the reference end with the same distances and the same indices. -/
theorem algebraic : Cert.algebraic_KernelIdeal_ReferenceIdeal_pre_finite := fun m g m' g' hpre hargs =>
  ⟨_, _, Cert.KernelIdeal.Run.run m g,
    (θ_run Cert.ReferenceIdeal.defs _ _).mono (fun r h c => by
      obtain ⟨X, Y, hX, hY⟩ := Cert.Equal.exist_reals (hpre c)
      obtain ⟨e0, e1⟩ := hargs c
      exact ⟨(h c).1.trans ((congrArg₂ Cert.ReferenceIdeal.Nearest.score e0 e1).trans (Cert.Equal.scores_eq hX hY).symm),
        (h c).2.1.trans ((congrArg₂ (fun q k => (Cert.ReferenceIdeal.Nearest.best q k).2) e0 e1).trans (Cert.Equal.indices_eq hX hY).symm),
        (h c).2.2⟩)
    (Cert.ReferenceIdeal.Value.run (F := Ideal) m' g')⟩

/-- Every claim of the certificate. -/
theorem claim : Cert.Claim := ⟨Cert.Kernel.Gen.facts, Cert.KernelIdeal.Gen.facts, Cert.ReferenceIdeal.Gen.facts, Cert.Pre_finite.facts,
  frame_kernel, frame_ideal, frame_ideal_finite, frame_reference, frame_reference_finite, trivial, algebraic⟩

end Cert.Proof

end
